-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)) (v5 : (c : Dev Cert.KernelIdeal.nD) → Buf (Elt Ideal) ((c.tc : Thread Cert.KernelIdeal.nD Cert.KernelIdeal.τ).loc Cert.KernelIdeal.main_v13_5)) (v6 : (c : Dev Cert.KernelIdeal.nD) → Buf (Elt Ideal) ((c.tc : Thread Cert.KernelIdeal.nD Cert.KernelIdeal.τ).loc Cert.KernelIdeal.main_v13_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_v13_5) = v5 c
          ∧ r.2.mem ((c.tc : Thread Cert.KernelIdeal.nD Cert.KernelIdeal.τ).loc Cert.KernelIdeal.main_v13_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_v36) = v4 c
          ∧ r.2.mem ((c.tc : Thread Cert.ReferenceIdeal.nD Cert.ReferenceIdeal.τ).loc Cert.ReferenceIdeal.main_v105) = v5 c
          ∧ r.2.mem ((c.tc : Thread Cert.ReferenceIdeal.nD Cert.ReferenceIdeal.τ).loc Cert.ReferenceIdeal.main_v4) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S_ : Shape := ⟨0, ![]⟩
abbrev S512x512 : Shape := ⟨2, ![512, 512]⟩
abbrev S64x512 : Shape := ⟨2, ![64, 512]⟩
abbrev S512x50 : Shape := ⟨2, ![512, 50]⟩
abbrev S50x100 : Shape := ⟨2, ![50, 100]⟩
abbrev S100x100 : Shape := ⟨2, ![100, 100]⟩
abbrev S100 : Shape := ⟨1, ![100]⟩
abbrev S100x1 : Shape := ⟨2, ![100, 1]⟩
abbrev S1 : Shape := ⟨1, ![1]⟩
abbrev S512x128 : Shape := ⟨2, ![512, 128]⟩
abbrev S128 : Shape := ⟨1, ![128]⟩
abbrev S128x1 : Shape := ⟨2, ![128, 1]⟩

class Facts : Prop where
  bcast_S_S100x1 : S_.BroadcastsInDim S100x1 (![] : Fin 0 → Fin S100x1.rank)
  reducesTo_S100x1_S_d0_1 : S100x1.ReducesTo [0, 1] S_
  h_S_ : 0 < S_.numel

variable [Facts]

def fn {F : FTy → Type} [FloatOps F] (main_arg0 : IVec S_ 32) (main_arg1 : IVec S_ 32) (main_arg2 : FVec F S512x512 .f32) (main_arg3 : FVec F S64x512 .f32) (main_arg4 : FVec F S512x50 .f32) (main_arg5 : FVec F S64x512 .f32) (main_arg6 : FVec F S50x100 .f32) (main_arg7 : FVec F S100x100 .f32) (main_arg8 : FVec F S100x100 .f32) (main_arg9 : FVec F S100 .f32) (main_arg10 : FVec F S100x100 .f32) (main_arg11 : FVec F S100 .f32) (main_arg12 : FVec F S100x1 .f32) (main_arg13 : FVec F S1 .f32) (main_arg14 : FVec F S100x1 .f32) (main_arg15 : FVec F S1 .f32) (main_arg16 : FVec F S100x1 .f32) (main_arg17 : FVec F S1 .f32) (main_arg18 : FVec F S100x1 .f32) (main_arg19 : FVec F S100x1 .f32) (main_arg20 : FVec F S512x128 .f32) (main_arg21 : FVec F S128 .f32) (main_arg22 : FVec F S128x1 .f32) (main_arg23 : FVec F S1 .f32) : IVec S_ 1 :=
  let main_c : IVec S_ 32 := constantI S_ 32 1#32
  let main_v0 : IVec S_ 1 := cmpi .sge main_arg1 main_c
  let main_c_0 : IVec S_ 32 := constantI S_ 32 0#32
  let main_v1 : IVec S_ 1 := cmpi .sge main_arg0 main_c_0
  let main_v2 : IVec S_ 1 := andi main_v0 main_v1
  let main_v3 : IVec S_ 1 := cmpi .sle main_arg0 main_arg1
  let main_v4 : IVec S_ 1 := andi main_v2 main_v3
  let main_cst : FVec F S_ .f32 := constant S_ .f32 0x7149F2CA#32
  let main_v5 : FVec F S100x1 .f32 := broadcastInDim S100x1 ![] bcast_S_S100x1 main_cst
  let main_v6 : IVec S100x1 1 := cmpf .ole main_arg19 main_v5
  let main_c_1 : IVec S_ 1 := constantI S_ 1 1#1
  let main_v7 : IVec S_ 1 := (fun x v => Host.reduce IntOp.andi x v reducesTo_S100x1_S_d0_1 h_S_) main_v6 main_c_1
  let main_v8 : IVec S_ 1 := andi main_v4 main_v7
  main_v8
-- ==== Kernel.lean ====
abbrev S_ : Shape := ⟨0, ![]⟩
abbrev S512x512 : Shape := ⟨2, ![512, 512]⟩
abbrev S64x512 : Shape := ⟨2, ![64, 512]⟩
abbrev S512x50 : Shape := ⟨2, ![512, 50]⟩
abbrev S50x100 : Shape := ⟨2, ![50, 100]⟩
abbrev S100x100 : Shape := ⟨2, ![100, 100]⟩
abbrev S100 : Shape := ⟨1, ![100]⟩
abbrev S100x1 : Shape := ⟨2, ![100, 1]⟩
abbrev S1 : Shape := ⟨1, ![1]⟩
abbrev S512x128 : Shape := ⟨2, ![512, 128]⟩
abbrev S128 : Shape := ⟨1, ![128]⟩
abbrev S128x1 : Shape := ⟨2, ![128, 1]⟩
abbrev S1x1 : Shape := ⟨2, ![1, 1]⟩
abbrev S1x100 : Shape := ⟨2, ![1, 100]⟩
abbrev S1x128 : Shape := ⟨2, ![1, 128]⟩
abbrev S64x1 : Shape := ⟨2, ![64, 1]⟩
abbrev S512x1 : Shape := ⟨2, ![512, 1]⟩
abbrev S64x512x512 : Shape := ⟨3, ![64, 512, 512]⟩
abbrev S512x100 : Shape := ⟨2, ![512, 100]⟩
abbrev S6x512x512 : Shape := ⟨3, ![6, 512, 512]⟩
abbrev S3 : Shape := ⟨1, ![3]⟩
abbrev S2 : Shape := ⟨1, ![2]⟩
abbrev S512 : Shape := ⟨1, ![512]⟩
abbrev S1x512 : Shape := ⟨2, ![1, 512]⟩
abbrev S2x512x512 : Shape := ⟨3, ![2, 512, 512]⟩
abbrev S1x1x512 : Shape := ⟨3, ![1, 1, 512]⟩
abbrev S1x1x1 : Shape := ⟨3, ![1, 1, 1]⟩
abbrev S1x512x512 : Shape := ⟨3, ![1, 512, 512]⟩
abbrev S64 : Shape := ⟨1, ![64]⟩
abbrev S64x100 : Shape := ⟨2, ![64, 100]⟩
abbrev S1x100x1 : Shape := ⟨3, ![1, 100, 1]⟩
abbrev S1x512x1 : Shape := ⟨3, ![1, 512, 1]⟩
abbrev S64x128 : Shape := ⟨2, ![64, 128]⟩

abbrev nBuf : Space → Nat
  | .hbm => 46
  | .vmem => 31
  | .smem => 1
  | _ => 0

abbrev bufTy : (tb : Table) → Fin (tcTables nBuf tb) → BufTy
  | .hbm, ⟨0, _⟩ => ⟨S_, .i32⟩
  | .hbm, ⟨1, _⟩ => ⟨S_, .i32⟩
  | .hbm, ⟨2, _⟩ => ⟨S512x512, .f32⟩
  | .hbm, ⟨3, _⟩ => ⟨S64x512, .f32⟩
  | .hbm, ⟨4, _⟩ => ⟨S512x50, .f32⟩
  | .hbm, ⟨5, _⟩ => ⟨S64x512, .f32⟩
  | .hbm, ⟨6, _⟩ => ⟨S50x100, .f32⟩
  | .hbm, ⟨7, _⟩ => ⟨S100x100, .f32⟩
  | .hbm, ⟨8, _⟩ => ⟨S100x100, .f32⟩
  | .hbm, ⟨9, _⟩ => ⟨S100, .f32⟩
  | .hbm, ⟨10, _⟩ => ⟨S100x100, .f32⟩
  | .hbm, ⟨11, _⟩ => ⟨S100, .f32⟩
  | .hbm, ⟨12, _⟩ => ⟨S100x1, .f32⟩
  | .hbm, ⟨13, _⟩ => ⟨S1, .f32⟩
  | .hbm, ⟨14, _⟩ => ⟨S100x1, .f32⟩
  | .hbm, ⟨15, _⟩ => ⟨S1, .f32⟩
  | .hbm, ⟨16, _⟩ => ⟨S100x1, .f32⟩
  | .hbm, ⟨17, _⟩ => ⟨S1, .f32⟩
  | .hbm, ⟨18, _⟩ => ⟨S100x1, .f32⟩
  | .hbm, ⟨19, _⟩ => ⟨S100x1, .f32⟩
  | .hbm, ⟨20, _⟩ => ⟨S512x128, .f32⟩
  | .hbm, ⟨21, _⟩ => ⟨S128, .f32⟩
  | .hbm, ⟨22, _⟩ => ⟨S128x1, .f32⟩
  | .hbm, ⟨23, _⟩ => ⟨S1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1x1, .f32⟩
  | .hbm, ⟨30, _⟩ => ⟨S1x100, .f32⟩
  | .hbm, ⟨31, _⟩ => ⟨S1x100, .f32⟩
  | .hbm, ⟨32, _⟩ => ⟨S1x100, .f32⟩
  | .hbm, ⟨33, _⟩ => ⟨S1x1, .f32⟩
  | .hbm, ⟨34, _⟩ => ⟨S1x1, .f32⟩
  | .hbm, ⟨35, _⟩ => ⟨S1x1, .f32⟩
  | .hbm, ⟨36, _⟩ => ⟨S1x128, .f32⟩
  | .hbm, ⟨37, _⟩ => ⟨S1x1, .f32⟩
  | .hbm, ⟨38, _⟩ => ⟨S64x1, .f32⟩
  | .hbm, ⟨39, _⟩ => ⟨S512x512, .f32⟩
  | .hbm, ⟨40, _⟩ => ⟨S512x1, .f32⟩
  | .hbm, ⟨41, _⟩ => ⟨S64x1, .f32⟩
  | .hbm, ⟨42, _⟩ => ⟨S64x1, .f32⟩
  | .hbm, ⟨43, _⟩ => ⟨S64x512x512, .f32⟩
  | .hbm, ⟨44, _⟩ => ⟨S512x100, .f32⟩
  | .hbm, ⟨45, _⟩ => ⟨S512, .f32⟩
  | .local _ .vmem, ⟨0, _⟩ => ⟨S512x512, .f32⟩
  | .local _ .vmem, ⟨1, _⟩ => ⟨S512x50, .f32⟩
  | .local _ .vmem, ⟨2, _⟩ => ⟨S64x512, .f32⟩
  | .local _ .vmem, ⟨3, _⟩ => ⟨S64x512, .f32⟩
  | .local _ .vmem, ⟨4, _⟩ => ⟨S50x100, .f32⟩
  | .local _ .vmem, ⟨5, _⟩ => ⟨S100x100, .f32⟩
  | .local _ .vmem, ⟨6, _⟩ => ⟨S100x100, .f32⟩
  | .local _ .vmem, ⟨7, _⟩ => ⟨S1x100, .f32⟩
  | .local _ .vmem, ⟨8, _⟩ => ⟨S100x100, .f32⟩
  | .local _ .vmem, ⟨9, _⟩ => ⟨S1x100, .f32⟩
  | .local _ .vmem, ⟨10, _⟩ => ⟨S100x1, .f32⟩
  | .local _ .vmem, ⟨11, _⟩ => ⟨S1x1, .f32⟩
  | .local _ .vmem, ⟨12, _⟩ => ⟨S100x1, .f32⟩
  | .local _ .vmem, ⟨13, _⟩ => ⟨S1x1, .f32⟩
  | .local _ .vmem, ⟨14, _⟩ => ⟨S100x1, .f32⟩
  | .local _ .vmem, ⟨15, _⟩ => ⟨S1x1, .f32⟩
  | .local _ .vmem, ⟨16, _⟩ => ⟨S100x1, .f32⟩
  | .local _ .vmem, ⟨17, _⟩ => ⟨S100x1, .f32⟩
  | .local _ .vmem, ⟨18, _⟩ => ⟨S1x100, .f32⟩
  | .local _ .vmem, ⟨19, _⟩ => ⟨S512x128, .f32⟩
  | .local _ .vmem, ⟨20, _⟩ => ⟨S1x128, .f32⟩
  | .local _ .vmem, ⟨21, _⟩ => ⟨S128x1, .f32⟩
  | .local _ .vmem, ⟨22, _⟩ => ⟨S1x1, .f32⟩
  | .local _ .vmem, ⟨23, _⟩ => ⟨S64x1, .f32⟩
  | .local _ .vmem, ⟨24, _⟩ => ⟨S512x1, .f32⟩
  | .local _ .vmem, ⟨25, _⟩ => ⟨S64x1, .f32⟩
  | .local _ .vmem, ⟨26, _⟩ => ⟨S64x1, .f32⟩
  | .local _ .vmem, ⟨27, _⟩ => ⟨S512x512, .f32⟩
  | .local _ .vmem, ⟨28, _⟩ => ⟨S6x512x512, .f32⟩
  | .local _ .vmem, ⟨29, _⟩ => ⟨S512x100, .f32⟩
  | .local _ .vmem, ⟨30, _⟩ => ⟨S512x512, .f32⟩
  | .local _ .smem, ⟨0, _⟩ => ⟨S1x1, .f32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13_0 : Ref sig .tc := ⟨.hbm, 38, rfl⟩
abbrev main_v13_1 : Ref sig .tc := ⟨.hbm, 39, rfl⟩
abbrev main_v13_2 : Ref sig .tc := ⟨.hbm, 40, rfl⟩
abbrev main_v13_3 : Ref sig .tc := ⟨.hbm, 41, rfl⟩
abbrev main_v13_4 : Ref sig .tc := ⟨.hbm, 42, rfl⟩
abbrev main_v13_5 : Ref sig .tc := ⟨.hbm, 43, rfl⟩
abbrev main_v13_6 : Ref sig .tc := ⟨.hbm, 44, rfl⟩
abbrev main_v14 : Ref sig .tc := ⟨.hbm, 45, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg17_0 : Ref sig .tc := ⟨.vmem, 16, rfl⟩
abbrev cc0_stg18_0 : Ref sig .tc := ⟨.vmem, 17, rfl⟩
abbrev cc0_stg19_0 : Ref sig .tc := ⟨.vmem, 18, rfl⟩
abbrev cc0_stg20_0 : Ref sig .tc := ⟨.vmem, 19, rfl⟩
abbrev cc0_stg21_0 : Ref sig .tc := ⟨.vmem, 20, rfl⟩
abbrev cc0_stg22_0 : Ref sig .tc := ⟨.vmem, 21, rfl⟩
abbrev cc0_stg23_0 : Ref sig .tc := ⟨.vmem, 22, rfl⟩
abbrev cc0_stg24_0 : Ref sig .tc := ⟨.vmem, 23, rfl⟩
abbrev cc0_stg25_0 : Ref sig .tc := ⟨.vmem, 24, rfl⟩
abbrev cc0_stg26_0 : Ref sig .tc := ⟨.vmem, 25, rfl⟩
abbrev cc0_stg27_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch3 : Ref sig .tc := ⟨.vmem, 29, rfl⟩
abbrev cc0_scratch4 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

@[reducible] def k0_t1_loop : Scf.Loop 32 :=
  let c0_i32_39 : BitVec 32 := 0#32
  let c32_i32 : BitVec 32 := 32#32
  let v66 : BitVec 32 := Scalar.addi c0_i32_39 c32_i32
  let c1_i32_40 : BitVec 32 := 1#32
  ⟨c0_i32_39, v66, c1_i32_40⟩
def k0_cond1 (k0_t1 : Fin k0_t1_loop.trips) : BitVec 1 :=
  let c0_i32_138 : BitVec 32 := 0#32
  let c0_i32_39 : BitVec 32 := 0#32
  let c1_i32_40 : BitVec 32 := 1#32
  let arg37 : BitVec 32 := Scf.iv c0_i32_39 c1_i32_40 k0_t1
  let c1_i32_137 : BitVec 32 := 1#32
  let v217 : BitVec 32 := Scalar.muli arg37 c1_i32_137
  let v218 : BitVec 32 := Scalar.addi c0_i32_138 v217
  let c3_i32_139 : BitVec 32 := 3#32
  let v220 : BitVec 1 := Scalar.cmpi .sge v218 c3_i32_139
  let v221 : BitVec 32 := Scalar.extui v220
  let c0_i32_140 : BitVec 32 := 0#32
  let v222 : BitVec 1 := Scalar.cmpi .ne v221 c0_i32_140
  v222

def k0_off1 (k0_t1 : Fin k0_t1_loop.trips) : Fin 1 → Nat :=
  let c0_i32_138 : BitVec 32 := 0#32
  let c0_i32_39 : BitVec 32 := 0#32
  let c1_i32_40 : BitVec 32 := 1#32
  let arg37 : BitVec 32 := Scf.iv c0_i32_39 c1_i32_40 k0_t1
  let c1_i32_137 : BitVec 32 := 1#32
  let v217 : BitVec 32 := Scalar.muli arg37 c1_i32_137
  let v218 : BitVec 32 := Scalar.addi c0_i32_138 v217
  let c3_i32 : BitVec 32 := 3#32
  let v219 : BitVec 32 := Scalar.remsi v218 c3_i32
  ![v219.toNat]
def k0_off2 (k0_t1 : Fin k0_t1_loop.trips) : Fin 3 → Nat :=
  let c2_i32_173 : BitVec 32 := 2#32
  let c0_i32_138 : BitVec 32 := 0#32
  let c0_i32_39 : BitVec 32 := 0#32
  let c1_i32_40 : BitVec 32 := 1#32
  let arg37 : BitVec 32 := Scf.iv c0_i32_39 c1_i32_40 k0_t1
  let c1_i32_137 : BitVec 32 := 1#32
  let v217 : BitVec 32 := Scalar.muli arg37 c1_i32_137
  let v218 : BitVec 32 := Scalar.addi c0_i32_138 v217
  let c3_i32_171 : BitVec 32 := 3#32
  let v285 : BitVec 32 := Scalar.subi v218 c3_i32_171
  let v287 : BitVec 32 := Scalar.muli c2_i32_173 v285
  let c0_i32_174 : BitVec 32 := 0#32
  let c0_i32_175 : BitVec 32 := 0#32
  ![v287.toNat, 0, 0]
def k0_off3 (k0_t1 : Fin k0_t1_loop.trips) : Fin 3 → Nat :=
  let c2_i32_172 : BitVec 32 := 2#32
  let c0_i32_138 : BitVec 32 := 0#32
  let c0_i32_39 : BitVec 32 := 0#32
  let c1_i32_40 : BitVec 32 := 1#32
  let arg37 : BitVec 32 := Scf.iv c0_i32_39 c1_i32_40 k0_t1
  let c1_i32_137 : BitVec 32 := 1#32
  let v217 : BitVec 32 := Scalar.muli arg37 c1_i32_137
  let v218 : BitVec 32 := Scalar.addi c0_i32_138 v217
  let c3_i32 : BitVec 32 := 3#32
  let v219 : BitVec 32 := Scalar.remsi v218 c3_i32
  let v286 : BitVec 32 := Scalar.muli c2_i32_172 v219
  let c0_i32_176 : BitVec 32 := 0#32
  let c0_i32_177 : BitVec 32 := 0#32
  ![v286.toNat, 0, 0]
def k0_off4 (k0_t1 : Fin k0_t1_loop.trips) (c0_i32_142 : BitVec 32) : Fin 2 → Nat :=
  let c2_i32_141 : BitVec 32 := 2#32
  let c0_i32_138 : BitVec 32 := 0#32
  let c0_i32_39 : BitVec 32 := 0#32
  let c1_i32_40 : BitVec 32 := 1#32
  let arg37 : BitVec 32 := Scf.iv c0_i32_39 c1_i32_40 k0_t1
  let c1_i32_137 : BitVec 32 := 1#32
  let v217 : BitVec 32 := Scalar.muli arg37 c1_i32_137
  let v218 : BitVec 32 := Scalar.addi c0_i32_138 v217
  let v223 : BitVec 32 := Scalar.muli c2_i32_141 v218
  let v224 : BitVec 32 := Scalar.addi v223 c0_i32_142
  let v225 : Index := Scalar.indexCast v224
  let c0_143 : Index := 0#32
  ![v225.toNat, 0]
def k0_off5 (k0_t1 : Fin k0_t1_loop.trips) (c0_i32_150 : BitVec 32) : Fin 3 → Nat :=
  let c2_i32_149 : BitVec 32 := 2#32
  let c0_i32_138 : BitVec 32 := 0#32
  let c0_i32_39 : BitVec 32 := 0#32
  let c1_i32_40 : BitVec 32 := 1#32
  let arg37 : BitVec 32 := Scf.iv c0_i32_39 c1_i32_40 k0_t1
  let c1_i32_137 : BitVec 32 := 1#32
  let v217 : BitVec 32 := Scalar.muli arg37 c1_i32_137
  let v218 : BitVec 32 := Scalar.addi c0_i32_138 v217
  let c3_i32 : BitVec 32 := 3#32
  let v219 : BitVec 32 := Scalar.remsi v218 c3_i32
  let v245 : BitVec 32 := Scalar.muli c2_i32_149 v219
  let v246 : BitVec 32 := Scalar.addi v245 c0_i32_150
  let v247 : Index := Scalar.indexCast v246
  let c0_151 : Index := 0#32
  let c0_152 : Index := 0#32
  ![v247.toNat, 0, 0]
def k0_off6 (k0_t1 : Fin k0_t1_loop.trips) : Fin 1 → Nat :=
  let c0_i32_138 : BitVec 32 := 0#32
  let c0_i32_39 : BitVec 32 := 0#32
  let c1_i32_40 : BitVec 32 := 1#32
  let arg37 : BitVec 32 := Scf.iv c0_i32_39 c1_i32_40 k0_t1
  let c1_i32_137 : BitVec 32 := 1#32
  let v217 : BitVec 32 := Scalar.muli arg37 c1_i32_137
  let v218 : BitVec 32 := Scalar.addi c0_i32_138 v217
  let c3_i32 : BitVec 32 := 3#32
  let v219 : BitVec 32 := Scalar.remsi v218 c3_i32
  ![v219.toNat]
def k0_off7 (k0_t1 : Fin k0_t1_loop.trips) : Fin 3 → Nat :=
  let c2_i32_166 : BitVec 32 := 2#32
  let c0_i32_138 : BitVec 32 := 0#32
  let c0_i32_39 : BitVec 32 := 0#32
  let c1_i32_40 : BitVec 32 := 1#32
  let arg37 : BitVec 32 := Scf.iv c0_i32_39 c1_i32_40 k0_t1
  let c1_i32_137 : BitVec 32 := 1#32
  let v217 : BitVec 32 := Scalar.muli arg37 c1_i32_137
  let v218 : BitVec 32 := Scalar.addi c0_i32_138 v217
  let v280 : BitVec 32 := Scalar.muli c2_i32_166 v218
  let c0_i32_167 : BitVec 32 := 0#32
  let c0_i32_168 : BitVec 32 := 0#32
  ![v280.toNat, 0, 0]
def k0_off8 (k0_t1 : Fin k0_t1_loop.trips) : Fin 3 → Nat :=
  let c2_i32_165 : BitVec 32 := 2#32
  let c0_i32_138 : BitVec 32 := 0#32
  let c0_i32_39 : BitVec 32 := 0#32
  let c1_i32_40 : BitVec 32 := 1#32
  let arg37 : BitVec 32 := Scf.iv c0_i32_39 c1_i32_40 k0_t1
  let c1_i32_137 : BitVec 32 := 1#32
  let v217 : BitVec 32 := Scalar.muli arg37 c1_i32_137
  let v218 : BitVec 32 := Scalar.addi c0_i32_138 v217
  let c3_i32 : BitVec 32 := 3#32
  let v219 : BitVec 32 := Scalar.remsi v218 c3_i32
  let v279 : BitVec 32 := Scalar.muli c2_i32_165 v219
  let c0_i32_169 : BitVec 32 := 0#32
  let c0_i32_170 : BitVec 32 := 0#32
  ![v279.toNat, 0, 0]
abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S50x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S100x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S100x100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x100 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S100x100 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x100 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S100x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S100x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S100x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S100x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S100x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x100 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S512x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S128x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S64x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S512x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S64x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S64x1 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== ReferenceIdeal.lean ====
abbrev S_ : Shape := ⟨0, ![]⟩
abbrev S512x512 : Shape := ⟨2, ![512, 512]⟩
abbrev S64x512 : Shape := ⟨2, ![64, 512]⟩
abbrev S512x50 : Shape := ⟨2, ![512, 50]⟩
abbrev S50x100 : Shape := ⟨2, ![50, 100]⟩
abbrev S100x100 : Shape := ⟨2, ![100, 100]⟩
abbrev S100 : Shape := ⟨1, ![100]⟩
abbrev S100x1 : Shape := ⟨2, ![100, 1]⟩
abbrev S1 : Shape := ⟨1, ![1]⟩
abbrev S512x128 : Shape := ⟨2, ![512, 128]⟩
abbrev S128 : Shape := ⟨1, ![128]⟩
abbrev S128x1 : Shape := ⟨2, ![128, 1]⟩
abbrev S512x100 : Shape := ⟨2, ![512, 100]⟩
abbrev S64 : Shape := ⟨1, ![64]⟩
abbrev S64x1 : Shape := ⟨2, ![64, 1]⟩
abbrev S64x100 : Shape := ⟨2, ![64, 100]⟩
abbrev S1x100 : Shape := ⟨2, ![1, 100]⟩
abbrev S512 : Shape := ⟨1, ![512]⟩
abbrev S512x1 : Shape := ⟨2, ![512, 1]⟩
abbrev S1x1 : Shape := ⟨2, ![1, 1]⟩
abbrev S100x512 : Shape := ⟨2, ![100, 512]⟩
abbrev S1x512 : Shape := ⟨2, ![1, 512]⟩
abbrev S1x512x512 : Shape := ⟨3, ![1, 512, 512]⟩
abbrev S64x512x1 : Shape := ⟨3, ![64, 512, 1]⟩
abbrev S64x512x512 : Shape := ⟨3, ![64, 512, 512]⟩
abbrev S64x1x512 : Shape := ⟨3, ![64, 1, 512]⟩
abbrev S64x128 : Shape := ⟨2, ![64, 128]⟩
abbrev S1x128 : Shape := ⟨2, ![1, 128]⟩

abbrev nBuf : Space → Nat
  | .hbm => 251
  | .vmem => 0
  | .smem => 0
  | _ => 0

abbrev hbmTy0_0 (i : Nat) : BufTy := match i % 128 with
  | 0 => ⟨S_, .i32⟩
  | 1 => ⟨S_, .i32⟩
  | 2 => ⟨S512x512, .f32⟩
  | 3 => ⟨S64x512, .f32⟩
  | 4 => ⟨S512x50, .f32⟩
  | 5 => ⟨S64x512, .f32⟩
  | 6 => ⟨S50x100, .f32⟩
  | 7 => ⟨S100x100, .f32⟩
  | 8 => ⟨S100x100, .f32⟩
  | 9 => ⟨S100, .f32⟩
  | 10 => ⟨S100x100, .f32⟩
  | 11 => ⟨S100, .f32⟩
  | 12 => ⟨S100x1, .f32⟩
  | 13 => ⟨S1, .f32⟩
  | 14 => ⟨S100x1, .f32⟩
  | 15 => ⟨S1, .f32⟩
  | 16 => ⟨S100x1, .f32⟩
  | 17 => ⟨S1, .f32⟩
  | 18 => ⟨S100x1, .f32⟩
  | 19 => ⟨S100x1, .f32⟩
  | 20 => ⟨S512x128, .f32⟩
  | 21 => ⟨S128, .f32⟩
  | 22 => ⟨S128x1, .f32⟩
  | 23 => ⟨S1, .f32⟩
  | 24 => ⟨S512x100, .f32⟩
  | 25 => ⟨S512x100, .f32⟩
  | 26 => ⟨S_, .f32⟩
  | 27 => ⟨S512x100, .f32⟩
  | 28 => ⟨S512x100, .f32⟩
  | 29 => ⟨S512x100, .f32⟩
  | 30 => ⟨S512x100, .f32⟩
  | 31 => ⟨S_, .f32⟩
  | 32 => ⟨S64, .f32⟩
  | 33 => ⟨S64x1, .f32⟩
  | 34 => ⟨S_, .f32⟩
  | 35 => ⟨S64x1, .f32⟩
  | 36 => ⟨S64x1, .f32⟩
  | 37 => ⟨S64x100, .f32⟩
  | 38 => ⟨S64x100, .f32⟩
  | 39 => ⟨S64x100, .f32⟩
  | 40 => ⟨S512x100, .f32⟩
  | 41 => ⟨S1x100, .f32⟩
  | 42 => ⟨S512x100, .f32⟩
  | 43 => ⟨S512x100, .f32⟩
  | 44 => ⟨S_, .f32⟩
  | 45 => ⟨S512x100, .f32⟩
  | 46 => ⟨S512x100, .f32⟩
  | 47 => ⟨S512x100, .f32⟩
  | 48 => ⟨S1x100, .f32⟩
  | 49 => ⟨S512x100, .f32⟩
  | 50 => ⟨S512x100, .f32⟩
  | 51 => ⟨S_, .f32⟩
  | 52 => ⟨S512x100, .f32⟩
  | 53 => ⟨S512x100, .f32⟩
  | 54 => ⟨S512x100, .f32⟩
  | 55 => ⟨S_, .f32⟩
  | 56 => ⟨S512, .f32⟩
  | 57 => ⟨S512x1, .f32⟩
  | 58 => ⟨S512x1, .f32⟩
  | 59 => ⟨S_, .f32⟩
  | 60 => ⟨S512x1, .f32⟩
  | 61 => ⟨S512x1, .f32⟩
  | 62 => ⟨S512x100, .f32⟩
  | 63 => ⟨S512x100, .f32⟩
  | 64 => ⟨S64x1, .f32⟩
  | 65 => ⟨S1x1, .f32⟩
  | 66 => ⟨S64x1, .f32⟩
  | 67 => ⟨S64x1, .f32⟩
  | 68 => ⟨S_, .f32⟩
  | 69 => ⟨S64x1, .f32⟩
  | 70 => ⟨S64x1, .f32⟩
  | 71 => ⟨S64x1, .f32⟩
  | 72 => ⟨S1x1, .f32⟩
  | 73 => ⟨S64x1, .f32⟩
  | 74 => ⟨S64x1, .f32⟩
  | 75 => ⟨S_, .f32⟩
  | 76 => ⟨S64x1, .f32⟩
  | 77 => ⟨S64x1, .f32⟩
  | 78 => ⟨S64x1, .f32⟩
  | 79 => ⟨S1x1, .f32⟩
  | 80 => ⟨S64x1, .f32⟩
  | 81 => ⟨S64x1, .f32⟩
  | 82 => ⟨S_, .f32⟩
  | 83 => ⟨S64x1, .f32⟩
  | 84 => ⟨S64x1, .f32⟩
  | 85 => ⟨S_, .f32⟩
  | 86 => ⟨S_, .f32⟩
  | 87 => ⟨S_, .f32⟩
  | 88 => ⟨S_, .f32⟩
  | 89 => ⟨S_, .f32⟩
  | 90 => ⟨S100, .f32⟩
  | 91 => ⟨S100, .i1⟩
  | 92 => ⟨S_, .i1⟩
  | 93 => ⟨S_, .i1⟩
  | 94 => ⟨S1, .i1⟩
  | 95 => ⟨S_, .f32⟩
  | 96 => ⟨S_, .f32⟩
  | 97 => ⟨S100, .i1⟩
  | 98 => ⟨S100, .f32⟩
  | 99 => ⟨S100, .f32⟩
  | 100 => ⟨S100, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .i32⟩
  | 121 => ⟨S_, .i32⟩
  | 122 => ⟨S1, .i32⟩
  | 123 => ⟨S_, .f32⟩
  | 124 => ⟨S1, .i32⟩
  | 125 => ⟨S_, .f32⟩
  | 126 => ⟨S_, .f32⟩
  | 127 => ⟨S_, .f32⟩
  | _ => ⟨S_, .i32⟩

abbrev hbmTy0_1 (i : Nat) : BufTy := match i % 128 with
  | 0 => ⟨S_, .f32⟩
  | 1 => ⟨S100x1, .f32⟩
  | 2 => ⟨S100x1, .i1⟩
  | 3 => ⟨S_, .f32⟩
  | 4 => ⟨S_, .f32⟩
  | 5 => ⟨S100x1, .f32⟩
  | 6 => ⟨S100x1, .f32⟩
  | 7 => ⟨S100x1, .f32⟩
  | 8 => ⟨S100x1, .f32⟩
  | 9 => ⟨S100x1, .f32⟩
  | 10 => ⟨S512x1, .f32⟩
  | 11 => ⟨S512, .f32⟩
  | 12 => ⟨S512, .f32⟩
  | 13 => ⟨S_, .f32⟩
  | 14 => ⟨S_, .f32⟩
  | 15 => ⟨S1, .f32⟩
  | 16 => ⟨S1, .f32⟩
  | 17 => ⟨S_, .f32⟩
  | 18 => ⟨S1, .f32⟩
  | 19 => ⟨S1, .f32⟩
  | 20 => ⟨S512, .f32⟩
  | 21 => ⟨S512, .f32⟩
  | 22 => ⟨S512x1, .f32⟩
  | 23 => ⟨S64x1, .f32⟩
  | 24 => ⟨S100x512, .f32⟩
  | 25 => ⟨S512x512, .f32⟩
  | 26 => ⟨S_, .f32⟩
  | 27 => ⟨S512x512, .f32⟩
  | 28 => ⟨S512x512, .f32⟩
  | 29 => ⟨S_, .f32⟩
  | 30 => ⟨S64x512, .f32⟩
  | 31 => ⟨S64x512, .i1⟩
  | 32 => ⟨S64x512, .f32⟩
  | 33 => ⟨S64x100, .f32⟩
  | 34 => ⟨S512x100, .f32⟩
  | 35 => ⟨S_, .f32⟩
  | 36 => ⟨S512, .f32⟩
  | 37 => ⟨S64x100, .f32⟩
  | 38 => ⟨S_, .f32⟩
  | 39 => ⟨S64, .f32⟩
  | 40 => ⟨S64, .f32⟩
  | 41 => ⟨S64, .f32⟩
  | 42 => ⟨S_, .f32⟩
  | 43 => ⟨S64, .f32⟩
  | 44 => ⟨S64, .f32⟩
  | 45 => ⟨S_, .f32⟩
  | 46 => ⟨S64, .f32⟩
  | 47 => ⟨S64, .f32⟩
  | 48 => ⟨S64x1, .f32⟩
  | 49 => ⟨S_, .f32⟩
  | 50 => ⟨S64, .f32⟩
  | 51 => ⟨S512, .f32⟩
  | 52 => ⟨S1x512, .f32⟩
  | 53 => ⟨S64x1, .f32⟩
  | 54 => ⟨S64x512, .f32⟩
  | 55 => ⟨S64x512, .f32⟩
  | 56 => ⟨S64x512, .i1⟩
  | 57 => ⟨S64x512, .f32⟩
  | 58 => ⟨S_, .f32⟩
  | 59 => ⟨S512x512, .f32⟩
  | 60 => ⟨S512x512, .i32⟩
  | 61 => ⟨S_, .i32⟩
  | 62 => ⟨S512x512, .i32⟩
  | 63 => ⟨S512x512, .i32⟩
  | 64 => ⟨S512x512, .i32⟩
  | 65 => ⟨S512x512, .i1⟩
  | 66 => ⟨S_, .f32⟩
  | 67 => ⟨S512x512, .f32⟩
  | 68 => ⟨S512x512, .f32⟩
  | 69 => ⟨S_, .f32⟩
  | 70 => ⟨S512x512, .f32⟩
  | 71 => ⟨S512x512, .f32⟩
  | 72 => ⟨S_, .f32⟩
  | 73 => ⟨S512x512, .f32⟩
  | 74 => ⟨S512x512, .f32⟩
  | 75 => ⟨S512x512, .f32⟩
  | 76 => ⟨S512x512, .f32⟩
  | 77 => ⟨S512x512, .f32⟩
  | 78 => ⟨S512x512, .f32⟩
  | 79 => ⟨S1x512x512, .f32⟩
  | 80 => ⟨S64x512x1, .f32⟩
  | 81 => ⟨S64x512x512, .f32⟩
  | 82 => ⟨S64x512x512, .f32⟩
  | 83 => ⟨S64x512x512, .f32⟩
  | 84 => ⟨S64x1x512, .f32⟩
  | 85 => ⟨S64x512x512, .f32⟩
  | 86 => ⟨S64x512x512, .f32⟩
  | 87 => ⟨S64x512x512, .f32⟩
  | 88 => ⟨S64x512x512, .f32⟩
  | 89 => ⟨S64x1, .f32⟩
  | 90 => ⟨S64x1, .f32⟩
  | 91 => ⟨S64x1, .f32⟩
  | 92 => ⟨S64x1, .f32⟩
  | 93 => ⟨S64x1, .f32⟩
  | 94 => ⟨S64x1, .f32⟩
  | 95 => ⟨S64x1, .f32⟩
  | 96 => ⟨S64x1, .f32⟩
  | 97 => ⟨S_, .f32⟩
  | 98 => ⟨S64x1, .f32⟩
  | 99 => ⟨S64x1, .f32⟩
  | 100 => ⟨S_, .f32⟩
  | 101 => ⟨S64x1, .f32⟩
  | 102 => ⟨S64x1, .f32⟩
  | 103 => ⟨S64x128, .f32⟩
  | 104 => ⟨S1x128, .f32⟩
  | 105 => ⟨S64x128, .f32⟩
  | 106 => ⟨S64x128, .f32⟩
  | 107 => ⟨S_, .f32⟩
  | 108 => ⟨S64x128, .f32⟩
  | 109 => ⟨S64x128, .f32⟩
  | 110 => ⟨S64x1, .f32⟩
  | 111 => ⟨S1x1, .f32⟩
  | 112 => ⟨S64x1, .f32⟩
  | 113 => ⟨S64x1, .f32⟩
  | 114 => ⟨S64x1, .f32⟩
  | 115 => ⟨S64x1, .f32⟩
  | 116 => ⟨S64x1, .f32⟩
  | 117 => ⟨S_, .f32⟩
  | 118 => ⟨S64x1, .f32⟩
  | 119 => ⟨S64x1, .f32⟩
  | 120 => ⟨S_, .f32⟩
  | 121 => ⟨S64x1, .f32⟩
  | 122 => ⟨S64x1, .f32⟩
  | _ => ⟨S_, .i32⟩

abbrev hbmTy (i : Nat) : BufTy := match i / 128 with
  | 0 => hbmTy0_0 i
  | 1 => hbmTy0_1 i
  | _ => ⟨S_, .i32⟩

abbrev bufTy : (tb : Table) → Fin (tcTables nBuf tb) → BufTy
  | .hbm, ⟨i, _⟩ => hbmTy i
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_call0_cst : Ref sig .tc := ⟨.hbm, 26, rfl⟩
abbrev main_call0_v0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_call1_cst : Ref sig .tc := ⟨.hbm, 44, rfl⟩
abbrev main_call1_v0 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_call2_cst : Ref sig .tc := ⟨.hbm, 51, rfl⟩
abbrev main_call2_v0 : Ref sig .tc := ⟨.hbm, 52, rfl⟩
abbrev main_v21 : Ref sig .tc := ⟨.hbm, 53, rfl⟩
abbrev main_call3_v0 : Ref sig .tc := ⟨.hbm, 54, rfl⟩
abbrev main_call3_cst : Ref sig .tc := ⟨.hbm, 55, rfl⟩
abbrev main_call3_v1 : Ref sig .tc := ⟨.hbm, 56, rfl⟩
abbrev main_call3_v2 : Ref sig .tc := ⟨.hbm, 57, rfl⟩
abbrev main_v22 : Ref sig .tc := ⟨.hbm, 58, rfl⟩
abbrev main_cst_1 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_call4_cst : Ref sig .tc := ⟨.hbm, 68, rfl⟩
abbrev main_call4_v0 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_call5_cst : Ref sig .tc := ⟨.hbm, 75, rfl⟩
abbrev main_call5_v0 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_call6_cst : Ref sig .tc := ⟨.hbm, 82, rfl⟩
abbrev main_call6_v0 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_2 : Ref sig .tc := ⟨.hbm, 88, rfl⟩
abbrev main_v45 : Ref sig .tc := ⟨.hbm, 89, rfl⟩
abbrev main_call7_v0 : Ref sig .tc := ⟨.hbm, 90, rfl⟩
abbrev main_call7_v1 : Ref sig .tc := ⟨.hbm, 91, rfl⟩
abbrev main_call7_c : Ref sig .tc := ⟨.hbm, 92, rfl⟩
abbrev main_call7_v2 : Ref sig .tc := ⟨.hbm, 93, rfl⟩
abbrev main_call7_v3 : Ref sig .tc := ⟨.hbm, 94, rfl⟩
abbrev main_call7_cst : Ref sig .tc := ⟨.hbm, 95, rfl⟩
abbrev main_call7_call0_v0 : Ref sig .tc := ⟨.hbm, 96, rfl⟩
abbrev main_call7_call0_v1 : Ref sig .tc := ⟨.hbm, 97, rfl⟩
abbrev main_call7_call0_v2 : Ref sig .tc := ⟨.hbm, 98, rfl⟩
abbrev main_call7_v4 : Ref sig .tc := ⟨.hbm, 99, rfl⟩
abbrev main_call7_v5 : Ref sig .tc := ⟨.hbm, 100, rfl⟩
abbrev main_call7_cst_0 : Ref sig .tc := ⟨.hbm, 101, rfl⟩
abbrev main_call7_cst_1 : Ref sig .tc := ⟨.hbm, 102, rfl⟩
abbrev main_call7_v6 : Ref sig .tc := ⟨.hbm, 103, rfl⟩
abbrev main_call7_v7 : Ref sig .tc := ⟨.hbm, 104, rfl⟩
abbrev main_call7_v8 : Ref sig .tc := ⟨.hbm, 105, rfl⟩
abbrev main_call7_v9 : Ref sig .tc := ⟨.hbm, 106, rfl⟩
abbrev main_call7_v10 : Ref sig .tc := ⟨.hbm, 107, rfl⟩
abbrev main_call7_cst_2 : Ref sig .tc := ⟨.hbm, 108, rfl⟩
abbrev main_call7_v11 : Ref sig .tc := ⟨.hbm, 109, rfl⟩
abbrev main_call7_cst_3 : Ref sig .tc := ⟨.hbm, 110, rfl⟩
abbrev main_call7_cst_4 : Ref sig .tc := ⟨.hbm, 111, rfl⟩
abbrev main_call7_v12 : Ref sig .tc := ⟨.hbm, 112, rfl⟩
abbrev main_call7_cst_5 : Ref sig .tc := ⟨.hbm, 113, rfl⟩
abbrev main_call7_v13 : Ref sig .tc := ⟨.hbm, 114, rfl⟩
abbrev main_call7_cst_6 : Ref sig .tc := ⟨.hbm, 115, rfl⟩
abbrev main_call7_cst_7 : Ref sig .tc := ⟨.hbm, 116, rfl⟩
abbrev main_call7_v14 : Ref sig .tc := ⟨.hbm, 117, rfl⟩
abbrev main_call7_cst_8 : Ref sig .tc := ⟨.hbm, 118, rfl⟩
abbrev main_call7_v15 : Ref sig .tc := ⟨.hbm, 119, rfl⟩
abbrev main_call7_v16 : Ref sig .tc := ⟨.hbm, 120, rfl⟩
abbrev main_call7_v17 : Ref sig .tc := ⟨.hbm, 121, rfl⟩
abbrev main_call7_v18 : Ref sig .tc := ⟨.hbm, 122, rfl⟩
abbrev main_call7_v19 : Ref sig .tc := ⟨.hbm, 123, rfl⟩
abbrev main_call7_v20 : Ref sig .tc := ⟨.hbm, 124, rfl⟩
abbrev main_call7_v21 : Ref sig .tc := ⟨.hbm, 125, rfl⟩
abbrev main_call7_v22 : Ref sig .tc := ⟨.hbm, 126, rfl⟩
abbrev main_call7_v23 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_cst_3 : Ref sig .tc := ⟨.hbm, 131, rfl⟩
abbrev main_cst_4 : Ref sig .tc := ⟨.hbm, 132, rfl⟩
abbrev main_call8_v0 : Ref sig .tc := ⟨.hbm, 133, rfl⟩
abbrev main_call8_v1 : Ref sig .tc := ⟨.hbm, 134, rfl⟩
abbrev main_v49 : Ref sig .tc := ⟨.hbm, 135, rfl⟩
abbrev main_v50 : Ref sig .tc := ⟨.hbm, 136, rfl⟩
abbrev main_v51 : Ref sig .tc := ⟨.hbm, 137, rfl⟩
abbrev main_v52 : Ref sig .tc := ⟨.hbm, 138, rfl⟩
abbrev main_v53 : Ref sig .tc := ⟨.hbm, 139, rfl⟩
abbrev main_call9_v0 : Ref sig .tc := ⟨.hbm, 140, rfl⟩
abbrev main_call9_cst : Ref sig .tc := ⟨.hbm, 141, rfl⟩
abbrev main_call9_v1 : Ref sig .tc := ⟨.hbm, 142, rfl⟩
abbrev main_call9_v2 : Ref sig .tc := ⟨.hbm, 143, rfl⟩
abbrev main_v54 : Ref sig .tc := ⟨.hbm, 144, rfl⟩
abbrev main_cst_5 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_v58 : Ref sig .tc := ⟨.hbm, 149, rfl⟩
abbrev main_v59 : Ref sig .tc := ⟨.hbm, 150, rfl⟩
abbrev main_v60 : Ref sig .tc := ⟨.hbm, 151, rfl⟩
abbrev main_v61 : Ref sig .tc := ⟨.hbm, 152, rfl⟩
abbrev main_v62 : Ref sig .tc := ⟨.hbm, 153, rfl⟩
abbrev main_call10_cst : Ref sig .tc := ⟨.hbm, 154, rfl⟩
abbrev main_call10_v0 : Ref sig .tc := ⟨.hbm, 155, rfl⟩
abbrev main_v63 : Ref sig .tc := ⟨.hbm, 156, rfl⟩
abbrev main_cst_6 : Ref sig .tc := ⟨.hbm, 157, rfl⟩
abbrev main_v64 : Ref sig .tc := ⟨.hbm, 158, rfl⟩
abbrev main_v65 : Ref sig .tc := ⟨.hbm, 159, rfl⟩
abbrev main_v66 : Ref sig .tc := ⟨.hbm, 160, rfl⟩
abbrev main_v67 : Ref sig .tc := ⟨.hbm, 161, rfl⟩
abbrev main_v68 : Ref sig .tc := ⟨.hbm, 162, rfl⟩
abbrev main_cst_7 : Ref sig .tc := ⟨.hbm, 163, rfl⟩
abbrev main_v69 : Ref sig .tc := ⟨.hbm, 164, rfl⟩
abbrev main_v70 : Ref sig .tc := ⟨.hbm, 165, rfl⟩
abbrev main_cst_8 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_cst_9 : Ref sig .tc := ⟨.hbm, 170, rfl⟩
abbrev main_v74 : Ref sig .tc := ⟨.hbm, 171, rfl⟩
abbrev main_v75 : Ref sig .tc := ⟨.hbm, 172, rfl⟩
abbrev main_call11_cst : Ref sig .tc := ⟨.hbm, 173, rfl⟩
abbrev main_call11_v0 : Ref sig .tc := ⟨.hbm, 174, rfl⟩
abbrev main_v76 : Ref sig .tc := ⟨.hbm, 175, rfl⟩
abbrev main_v77 : Ref sig .tc := ⟨.hbm, 176, rfl⟩
abbrev main_cst_10 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_cst_11 : Ref sig .tc := ⟨.hbm, 186, rfl⟩
abbrev main_v86 : Ref sig .tc := ⟨.hbm, 187, rfl⟩
abbrev main_call12_v0 : Ref sig .tc := ⟨.hbm, 188, rfl⟩
abbrev main_call12_c : Ref sig .tc := ⟨.hbm, 189, rfl⟩
abbrev main_call12_v1 : Ref sig .tc := ⟨.hbm, 190, rfl⟩
abbrev main_call12_v2 : Ref sig .tc := ⟨.hbm, 191, rfl⟩
abbrev main_call12_v3 : Ref sig .tc := ⟨.hbm, 192, rfl⟩
abbrev main_call12_v4 : Ref sig .tc := ⟨.hbm, 193, rfl⟩
abbrev main_call12_cst : Ref sig .tc := ⟨.hbm, 194, rfl⟩
abbrev main_call12_v5 : Ref sig .tc := ⟨.hbm, 195, rfl⟩
abbrev main_v87 : Ref sig .tc := ⟨.hbm, 196, rfl⟩
abbrev main_cst_12 : Ref sig .tc := ⟨.hbm, 197, rfl⟩
abbrev main_v88 : Ref sig .tc := ⟨.hbm, 198, rfl⟩
abbrev main_v89 : Ref sig .tc := ⟨.hbm, 199, rfl⟩
abbrev main_cst_13 : Ref sig .tc := ⟨.hbm, 200, rfl⟩
abbrev main_v90 : Ref sig .tc := ⟨.hbm, 201, rfl⟩
abbrev main_v91 : Ref sig .tc := ⟨.hbm, 202, rfl⟩
abbrev main_v92 : Ref sig .tc := ⟨.hbm, 203, rfl⟩
abbrev main_v93 : Ref sig .tc := ⟨.hbm, 204, rfl⟩
abbrev main_v94 : Ref sig .tc := ⟨.hbm, 205, rfl⟩
abbrev main_v95 : Ref sig .tc := ⟨.hbm, 206, rfl⟩
abbrev main_v96 : Ref sig .tc := ⟨.hbm, 207, rfl⟩
abbrev main_v97 : Ref sig .tc := ⟨.hbm, 208, rfl⟩
abbrev main_v98 : Ref sig .tc := ⟨.hbm, 209, rfl⟩
abbrev main_v99 : Ref sig .tc := ⟨.hbm, 210, rfl⟩
abbrev main_v100 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_v104 : Ref sig .tc := ⟨.hbm, 215, rfl⟩
abbrev main_v105 : Ref sig .tc := ⟨.hbm, 216, rfl⟩
abbrev main_v106 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_cst_14 : Ref sig .tc := ⟨.hbm, 225, rfl⟩
abbrev main_v114 : Ref sig .tc := ⟨.hbm, 226, rfl⟩
abbrev main_v115 : Ref sig .tc := ⟨.hbm, 227, rfl⟩
abbrev main_cst_15 : Ref sig .tc := ⟨.hbm, 228, rfl⟩
abbrev main_v116 : Ref sig .tc := ⟨.hbm, 229, rfl⟩
abbrev main_v117 : Ref sig .tc := ⟨.hbm, 230, rfl⟩
abbrev main_v118 : Ref sig .tc := ⟨.hbm, 231, rfl⟩
abbrev main_v119 : Ref sig .tc := ⟨.hbm, 232, rfl⟩
abbrev main_v120 : Ref sig .tc := ⟨.hbm, 233, rfl⟩
abbrev main_v121 : Ref sig .tc := ⟨.hbm, 234, rfl⟩
abbrev main_call13_cst : Ref sig .tc := ⟨.hbm, 235, rfl⟩
abbrev main_call13_v0 : Ref sig .tc := ⟨.hbm, 236, rfl⟩
abbrev main_v122 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_v126 : Ref sig .tc := ⟨.hbm, 241, rfl⟩
abbrev main_v127 : Ref sig .tc := ⟨.hbm, 242, rfl⟩
abbrev main_v128 : Ref sig .tc := ⟨.hbm, 243, rfl⟩
abbrev main_v129 : Ref sig .tc := ⟨.hbm, 244, rfl⟩
abbrev main_cst_16 : Ref sig .tc := ⟨.hbm, 245, rfl⟩
abbrev main_v130 : Ref sig .tc := ⟨.hbm, 246, rfl⟩
abbrev main_v131 : Ref sig .tc := ⟨.hbm, 247, rfl⟩
abbrev main_cst_17 : Ref sig .tc := ⟨.hbm, 248, rfl⟩
abbrev main_v132 : Ref sig .tc := ⟨.hbm, 249, rfl⟩
abbrev main_v133 : Ref sig .tc := ⟨.hbm, 250, rfl⟩

abbrev nD : Nat := 1
abbrev τ : Topo := Topo.v7x

variable {F : FTy → Type} [FloatOps F]
-- ==== Proof.RingI.lean ====
/-
  The pair-event loop of the kernel: 32 trips, trip `k` computing two planes of the event table in one of three
  slots of a scratch buffer and copying them out to the table in HBM, the copy of trip `k - 3` waited for first.
  Stated here: the names of the slots, blocks and cells, what a block of the table holds at the end, the resources
  before each trip, and one trip.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.ValueIdxCore
public import Idealize.ShloMosaic.Lib.Affine
public import Idealize.ShloMosaic.Lib.WritesUnit
public import Idealize.ShloMosaic.Lib.Exec.Context
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := Pipeline.UD sig nD τ
local notation "𝕄" => MT nD τ sig Unit (Elt F) ℕ (Pipeline.UD sig nD τ) ℕ

/-! ## Names: block `b` of the event table, slot `s` of the scratch buffer, slot `s`'s cell -/

abbrev zmM : Memref sig .tc .hbm S512x512 .f32 := Memref.whole main_v13_1
abbrev zevM : Memref sig .tc .hbm S64x512x512 .f32 := Memref.whole main_v13_5
abbrev hM : Memref sig .tc .hbm S512x100 .f32 := Memref.whole main_v13_6
abbrev fmM : Memref sig .tc .vmem S512x512 .f32 := Memref.whole cc0_scratch0
abbrev bufM : Memref sig .tc .vmem S6x512x512 .f32 := Memref.whole cc0_scratch1
abbrev hsM : Memref sig .tc .vmem S512x100 .f32 := Memref.whole cc0_scratch3
abbrev zsM : Memref sig .tc .vmem S512x512 .f32 := Memref.whole cc0_scratch4

abbrev blkOff (b : Fin 32) : Fin 3 → Nat := ![2 * b.val, 0, 0]
theorem blkOff_inb (b : Fin 32) : ∀ a, blkOff b a + S2x512x512.size a ≤ S64x512x512.size a := by
  have := b.isLt; intro a; fin_cases a
  · show 2 * b.val + 2 ≤ 64; omega
  · show 0 + 512 ≤ 512; omega
  · show 0 + 512 ≤ 512; omega
abbrev slotOff (s : Fin 3) : Fin 3 → Nat := ![2 * s.val, 0, 0]
theorem slotOff_inb (s : Fin 3) : ∀ a, slotOff s a + S2x512x512.size a ≤ S6x512x512.size a := by
  have := s.isLt; intro a; fin_cases a
  · show 2 * s.val + 2 ≤ 6; omega
  · show 0 + 512 ≤ 512; omega
  · show 0 + 512 ≤ 512; omega
abbrev semOff (s : Fin 3) : Fin 1 → Nat := ![s.val]
theorem semOff_inb (s : Fin 3) : ∀ a, semOff s a + S1.size a ≤ S3.size a := by
  have := s.isLt; intro a; fin_cases a; show s.val + 1 ≤ 3; omega

/-- Block `b` of the event table, as the body slices it. -/
def zblk (b : Fin 32) : Memref sig .tc .hbm S2x512x512 .f32 :=
  zevM.slice (Rect.unit (s := S64x512x512) (blkOff b) S2x512x512.size (blkOff_inb b)) (fun _ => rfl)
/-- Slot `s` of the scratch buffer, as the body slices it. -/
def bslot (s : Fin 3) : Memref sig .tc .vmem S2x512x512 .f32 :=
  bufM.slice (Rect.unit (s := S6x512x512) (slotOff s) S2x512x512.size (slotOff_inb s)) (fun _ => rfl)
/-- Slot `s`'s DMA semaphore. -/
def csm (s : Fin 3) : DmaSems sig S_ := (cc0_scratch2.slice (Rect.unit (s := S3) (semOff s) S1.size (semOff_inb s))).squeeze S_ squeezes_S1_S_

instance (s : Fin 3) : ClosedOff (slotOff s) := ⟨slotOff s, rfl⟩
instance (b : Fin 32) : ClosedOff (blkOff b) := ⟨blkOff b, rfl⟩

/-! ## The trip's offsets in closed form -/

theorem cond1_iff : ∀ k : Fin k0_t1_loop.trips, k0_cond1 k = 1#1 ↔ 3 ≤ k.val := by decide +kernel
theorem off1_eq : ∀ k : Fin k0_t1_loop.trips, k0_off1 k = semOff (Ring.sl 3 k.val) := by decide +kernel
theorem off2_eq : ∀ k : Fin k0_t1_loop.trips, 3 ≤ k.val → k0_off2 k = blkOff (Ring.bk 32 (k.val - 3)) := by decide +kernel
theorem off3_eq : ∀ k : Fin k0_t1_loop.trips, k0_off3 k = slotOff (Ring.sl 3 k.val) := by decide +kernel
theorem off4_eq0 : ∀ k : Fin k0_t1_loop.trips, k0_off4 k 0#32 = ![2 * k.val, 0] := by decide +kernel
theorem off4_eq1 : ∀ k : Fin k0_t1_loop.trips, k0_off4 k 1#32 = ![2 * k.val + 1, 0] := by decide +kernel
theorem off5_eq0 : ∀ k : Fin k0_t1_loop.trips, k0_off5 k 0#32 = ![2 * (Ring.sl 3 k.val).val, 0, 0] := by decide +kernel
theorem off5_eq1 : ∀ k : Fin k0_t1_loop.trips, k0_off5 k 1#32 = ![2 * (Ring.sl 3 k.val).val + 1, 0, 0] := by decide +kernel
theorem off6_eq : ∀ k : Fin k0_t1_loop.trips, k0_off6 k = semOff (Ring.sl 3 k.val) := by decide +kernel
theorem off7_eq : ∀ k : Fin k0_t1_loop.trips, k0_off7 k = blkOff (Ring.bk 32 k.val) := by decide +kernel
theorem off8_eq : ∀ k : Fin k0_t1_loop.trips, k0_off8 k = slotOff (Ring.sl 3 k.val) := by decide +kernel

instance (k : Fin k0_t1_loop.trips) : ClosedOff (k0_off5 k 0#32) := ⟨_, off5_eq0 k⟩
instance (k : Fin k0_t1_loop.trips) : ClosedOff (k0_off5 k 1#32) := ⟨_, off5_eq1 k⟩
instance (k : Fin k0_t1_loop.trips) : ClosedOff (k0_off4 k 0#32) := ⟨_, off4_eq0 k⟩
instance (k : Fin k0_t1_loop.trips) : ClosedOff (k0_off4 k 1#32) := ⟨_, off4_eq1 k⟩

theorem csm_congr {o o' : Fin 1 → Nat} (e : o = o') (hh : ∀ a, o a + S1.size a ≤ S3.size a) (hh' : ∀ a, o' a + S1.size a ≤ S3.size a) :
    (cc0_scratch2.slice (Rect.unit (s := S3) o S1.size hh)).squeeze S_ squeezes_S1_S_
      = (cc0_scratch2.slice (Rect.unit (s := S3) o' S1.size hh')).squeeze S_ squeezes_S1_S_ := by subst e; rfl
theorem zblk_congr {o o' : Fin 3 → Nat} (e : o = o') (hh : ∀ a, o a + S2x512x512.size a ≤ S64x512x512.size a) (hh') (hs hs') :
    zevM.slice (Rect.unit (s := S64x512x512) o S2x512x512.size hh) hs
      = zevM.slice (Rect.unit (s := S64x512x512) o' S2x512x512.size hh') hs' := by subst e; rfl
theorem bslot_congr {o o' : Fin 3 → Nat} (e : o = o') (hh : ∀ a, o a + S2x512x512.size a ≤ S6x512x512.size a) (hh') (hs hs') :
    bufM.slice (Rect.unit (s := S6x512x512) o S2x512x512.size hh) hs
      = bufM.slice (Rect.unit (s := S6x512x512) o' S2x512x512.size hh') hs' := by subst e; rfl

@[sl_canon] theorem semW (k : Fin k0_t1_loop.trips) (hh) :
    (cc0_scratch2.slice (Rect.unit (s := S3) (k0_off1 k) S1.size hh)).squeeze S_ squeezes_S1_S_ = csm (Ring.sl 3 k.val) := csm_congr (off1_eq k) _ _
@[sl_canon] theorem semI (k : Fin k0_t1_loop.trips) (hh) :
    (cc0_scratch2.slice (Rect.unit (s := S3) (k0_off6 k) S1.size hh)).squeeze S_ squeezes_S1_S_ = csm (Ring.sl 3 k.val) := csm_congr (off6_eq k) _ _
@[sl_canon] theorem blkW (k : Fin k0_t1_loop.trips) (hk : 3 ≤ k.val) (hh hs) :
    zevM.slice (Rect.unit (s := S64x512x512) (k0_off2 k) S2x512x512.size hh) hs = zblk (Ring.bk 32 (k.val - 3)) := zblk_congr (off2_eq k hk) _ _ _ (fun _ => rfl)
@[sl_canon] theorem blkI (k : Fin k0_t1_loop.trips) (hh hs) :
    zevM.slice (Rect.unit (s := S64x512x512) (k0_off7 k) S2x512x512.size hh) hs = zblk (Ring.bk 32 k.val) := zblk_congr (off7_eq k) _ _ _ (fun _ => rfl)
@[sl_canon] theorem slotW (k : Fin k0_t1_loop.trips) (hh hs) :
    bufM.slice (Rect.unit (s := S6x512x512) (k0_off3 k) S2x512x512.size hh) hs = bslot (Ring.sl 3 k.val) := bslot_congr (off3_eq k) _ _ _ (fun _ => rfl)
@[sl_canon] theorem slotI (k : Fin k0_t1_loop.trips) (hh hs) :
    bufM.slice (Rect.unit (s := S6x512x512) (k0_off8 k) S2x512x512.size hh) hs = bslot (Ring.sl 3 k.val) := bslot_congr (off8_eq k) _ _ _ (fun _ => rfl)

/-! ## What the table holds at the end, and the pieces -/

section Pieces
variable (c : Dev nD) (arg3 : Memref sig .tc .vmem S64x512 .f32)

theorem row_inb (b : Fin 64) : ∀ a, (![b.val, 0] : Fin 2 → Nat) a + S1x512.size a ≤ S64x512.size a := by
  have := b.isLt; intro a; fin_cases a
  · show b.val + 1 ≤ 64; omega
  · show 0 + 512 ≤ 512; omega
/-- Row `b` of the masks, as the body loads it. -/
abbrev maskRow (XM : Buf (Elt F) (arg3.view.loc (c : Thread nD τ))) (b : Fin 64) : Vec F S1x512 .f32 :=
  arg3.view.readAt (Elt F) (Rect.unit (s := S64x512) ![b.val, 0] S1x512.size (row_inb b)).toLoadRect XM
abbrev io0 : IVec S512x1 32 := iota .tc S512x1 32 [0] iota_S512x1_d0_w32
abbrev io1 : IVec S1x512 32 := iota .tc S1x512 32 [1] iota_S1x512_d1_w32

/-- What the event table holds at the end: plane `b`, from row `b` of the masks and the pair factors `v65`. -/
def evTab (v65 : Vec F S512x512 .f32) (XM : Buf (Elt F) (arg3.view.loc (c : Thread nD τ))) : Buf (Elt F) (zevM.view.loc (c : Thread nD τ)) :=
  fun y : S64x512x512.Idx => k0_pay1 io0 io1 v65 (maskRow c arg3 XM (y 0)) (ValueIdx.ix3 (n0 := 1) (n1 := 512) (n2 := 512) 0 (y 1) (y 2))

abbrev cellP (s : Fin 3) : sProp 𝕄 := semVal ((c : Thread nD τ), SemLoc.dma (csm s).sem) 0
abbrev slotP (s : Fin 3) (f : Buf (Elt F) ((bslot s).view.loc (c : Thread nD τ))) : sProp 𝕄 :=
  (bslot s).view.loc (c : Thread nD τ) ↦[(bslot s).view.set]{fullShare} f
abbrev zP (b : Fin 32) (f : Buf (Elt F) ((zblk b).view.loc (c : Thread nD τ))) : sProp 𝕄 :=
  (zblk b).view.loc (c : Thread nD τ) ↦[(zblk b).view.set]{fullShare} f
/-- Slot `s` in flight to block `b`, which it will leave at the table's final contents. -/
abbrev flightP (v65 : Vec F S512x512 .f32) (XM : Buf (Elt F) (arg3.view.loc (c : Thread nD τ))) (s : Fin 3) (b : Fin 32)
    (f : Buf (Elt F) ((bslot s).view.loc (c : Thread nD τ))) : sProp 𝕄 :=
  Transfers.Flight countersEmb (c : Thread nD τ) (SemLoc.dma (csm s).sem) () 65536 iprop(zP c b (evTab c arg3 v65 XM) ∗ slotP c s f)
/-- The role numbered `n` (trip `n` takes it): the slot free before the first three trips, later in flight with block `n - 3`. -/
def roleAt (v65 : Vec F S512x512 .f32) (XM : Buf (Elt F) (arg3.view.loc (c : Thread nD τ))) (n : ℕ) : sProp 𝕄 :=
  if 3 ≤ n then iprop(∃ f, flightP c arg3 v65 XM (Ring.sl 3 n) (Ring.bk 32 (n - 3)) f)
  else iprop(cellP (F := F) c (Ring.sl 3 n) ∗ ∃ f, slotP c (Ring.sl 3 n) f)
omit [FloatOps F] in
theorem bk32 {k : ℕ} (h : k < 32) : (⟨k, h⟩ : Fin 32) = Ring.bk 32 k := Fin.ext (Ring.bk_val h).symm
omit [FloatOps F] in
theorem home_split (Φ : Fin 32 → sProp 𝕄) {k : ℕ} (h : k < 32) :
    bigSep (Ring.rangeSet 32 k 32) Φ = iprop(Φ (Ring.bk 32 k) ∗ bigSep (Ring.rangeSet 32 (k + 1) 32) Φ) := by
  rw [Ring.bigSep_rangeSet_head (NB := 32) h h, bk32]
omit [FloatOps F] in
theorem done_split (Φ : Fin 32 → sProp 𝕄) {k : ℕ} (h3 : 3 ≤ k) (h : k < 32) :
    bigSep (Ring.rangeSet 32 0 (k + 1 - 3)) Φ = iprop(Φ (Ring.bk 32 (k - 3)) ∗ bigSep (Ring.rangeSet 32 0 (k - 3)) Φ) := by
  rw [Ring.bigSep_rangeSet_last (NB := 32) (show 0 < k + 1 - 3 by omega) (show k + 1 - 3 ≤ 32 by omega)]
  have e : k + 1 - 3 - 1 = k - 3 := by omega
  simp only [e, bk32]
/-- The resources before trip `k`. -/
def resAt (v65 : Vec F S512x512 .f32) (XM : Buf (Elt F) (arg3.view.loc (c : Thread nD τ))) (Z0 : Buf (Elt F) (zevM.view.loc (c : Thread nD τ))) (k : ℕ) : sProp 𝕄 :=
  iprop((arg3.view.loc (c : Thread nD τ) ↦[arg3.view.set]{fullShare} XM) ∗ (∃ W, owes (c : Thread nD τ) 0 W)
    ∗ bigSep (Ring.rangeSet 32 k 32) (fun b => zP c b Z0)
    ∗ bigSep (Ring.rangeSet 32 0 (k - 3)) (fun b => zP c b (evTab c arg3 v65 XM))
    ∗ roleAt c arg3 v65 XM k ∗ roleAt c arg3 v65 XM (k + 1) ∗ roleAt c arg3 v65 XM (k + 2))

/-- A flight issued by trip `k` is the role numbered `k + 3`. -/
theorem role_issued (v65 : Vec F S512x512 .f32) (XM : Buf (Elt F) (arg3.view.loc (c : Thread nD τ))) (k : ℕ)
    (f : Buf (Elt F) ((bslot (Ring.sl 3 k)).view.loc (c : Thread nD τ))) :
    flightP c arg3 v65 XM (Ring.sl 3 k) (Ring.bk 32 k) f ⊢ roleAt c arg3 v65 XM (k + 1 + 2) := by
  unfold roleAt
  rw [if_pos (by omega : 3 ≤ k + 1 + 2), show k + 1 + 2 = k + 3 from rfl, Ring.sl_add 3 k, Nat.add_sub_cancel]
  iintro H; iexists f; iexact H

omit [FloatOps F] in
/-- Two planes stored one after the other read back. -/
theorem planes_read {sp : Space} (v : View sig Kind.tc sp S6x512x512 .f32) (f : v.ty.Contents (Elt F)) (n : ℕ) {o0 o1 : Fin 3 → Nat}
    (e0 : o0 = ![n, 0, 0]) (e1 : o1 = ![n + 1, 0, 0])
    (i0 : ∀ a, o0 a + S1x512x512.size a ≤ S6x512x512.size a) (i1 : ∀ a, o1 a + S1x512x512.size a ≤ S6x512x512.size a)
    (p0 p1 : S1x512x512.Idx → Elt F .f32) (z : S6x512x512.Idx) (h0 : n ≤ (z 0).val) (h1 : (z 0).val < n + 2) :
    v.read (Elt F) (v.writes (Elt F) f [⟨Rect.unit (s := S6x512x512) o1 S1x512x512.size i1, p1⟩, ⟨Rect.unit (s := S6x512x512) o0 S1x512x512.size i0, p0⟩]) z
      = if (z 0).val = n + 1 then p1 (ValueIdx.ix3 (n0 := 1) (n1 := 512) (n2 := 512) 0 (z 1) (z 2))
        else p0 (ValueIdx.ix3 (n0 := 1) (n1 := 512) (n2 := 512) 0 (z 1) (z 2)) := by
  have ax {m : ℕ} (hm : (z 0).val = m) : ∀ a : Fin 3, (z a).val = (![m, 0, 0] : Fin 3 → ℕ) a
      + ((ValueIdx.ix3 (n0 := 1) (n1 := 512) (n2 := 512) 0 (z 1) (z 2) : S1x512x512.Idx) a).val := by
    intro a
    match a with
    | 0 => exact hm.trans (Nat.add_zero m).symm
    | 1 => exact (Nat.zero_add _).symm
    | 2 => exact (Nat.zero_add _).symm
  by_cases h : (z 0).val = n + 1
  · rw [if_pos h]
    exact View.read_writes_cons_unit_of_mem v f i1 p1 _ z _ e1 (ax h)
  · rw [if_neg h, View.read_writes_cons_unit_of_not_mem v f i1 p1 _ z e1 0 (.inl (show (z 0).val < n + 1 by omega))]
    exact View.read_writes_cons_unit_of_mem v f i0 p0 _ z _ e0 (ax (by omega))

/-- The element of the scratch buffer at a slot's element. -/
abbrev slotAt (s : Fin 3) (y : S2x512x512.Idx) : S6x512x512.Idx :=
  (Rect.unit (s := S6x512x512) (slotOff s) S2x512x512.size (slotOff_inb s)).emb y

omit [FloatOps F] in
/-- A slot's two planes after the trip's two stores. -/
theorem slot_read (s : Fin 3) {o0 o1 : Fin 3 → Nat} (e0 : o0 = ![2 * s.val, 0, 0]) (e1 : o1 = ![2 * s.val + 1, 0, 0])
    (i0 : ∀ a, o0 a + S1x512x512.size a ≤ S6x512x512.size a) (i1 : ∀ a, o1 a + S1x512x512.size a ≤ S6x512x512.size a)
    (f : Buf (Elt F) ((bslot s).view.loc (c : Thread nD τ))) (p0 p1 : S1x512x512.Idx → Elt F .f32) (y : S2x512x512.Idx) :
    (bslot s).view.read (Elt F) (bufM.view.writes (Elt F) f [⟨Rect.unit (s := S6x512x512) o1 S1x512x512.size i1, p1⟩, ⟨Rect.unit (s := S6x512x512) o0 S1x512x512.size i0, p0⟩]) y
      = if (y 0).val = 1 then p1 (ValueIdx.ix3 (n0 := 1) (n1 := 512) (n2 := 512) 0 (y 1) (y 2)) else p0 (ValueIdx.ix3 (n0 := 1) (n1 := 512) (n2 := 512) 0 (y 1) (y 2)) := by
  have hy0 : (y 0).val < 2 := (y 0).isLt
  have z0 : (slotAt s y 0).val = 2 * s.val + (y 0).val := by show 2 * s.val + 1 * (y 0).val = _; omega
  have z1 : slotAt s y 1 = y 1 := Fin.ext (by show 0 + 1 * (y 1).val = _; omega)
  have z2 : slotAt s y 2 = y 2 := Fin.ext (by show 0 + 1 * (y 2).val = _; omega)
  have h := planes_read bufM.view f (2 * s.val) e0 e1 i0 i1 p0 p1 (slotAt s y) (by omega) (by omega)
  rw [z0, z1, z2] at h
  refine Eq.trans ?_ (h.trans (if_congr (by omega) rfl rfl))
  rfl

/-- The element of the table at a block's element. -/
abbrev blkAt (b : Fin 32) (y : S2x512x512.Idx) : S64x512x512.Idx :=
  (Rect.unit (s := S64x512x512) (blkOff b) S2x512x512.size (blkOff_inb b)).emb y

/-- A block overwritten whole with the table's planes holds the table there. -/
theorem blk_final (v65 : Vec F S512x512 .f32) (XM : Buf (Elt F) (arg3.view.loc (c : Thread nD τ))) (b : Fin 32)
    (Z0 : Buf (Elt F) ((zblk b).view.loc (c : Thread nD τ))) (P : S2x512x512.Idx → Elt F .f32)
    (hP : ∀ y, P y = evTab c arg3 v65 XM (blkAt b y)) :
    zP c b ((zblk b).view.writes (Elt F) Z0 [⟨Rect.whole S2x512x512, P⟩]) ⊢ zP c b (evTab c arg3 v65 XM) := by
  have h : (zblk b).view.read (Elt F) ((zblk b).view.writes (Elt F) Z0 [⟨Rect.whole S2x512x512, P⟩])
      = (zblk b).view.read (Elt F) (evTab c arg3 v65 XM) :=
    (View.read_writes_whole (zblk b).view Z0 P).trans (funext hP)
  unfold zP
  rw [pointsTo_rep (c : Thread nD τ) (zblk b) ((zblk b).view.writes (Elt F) Z0 [⟨Rect.whole S2x512x512, P⟩]),
    pointsTo_rep (c : Thread nD τ) (zblk b) (evTab c arg3 v65 XM), h]

theorem flight_final (v65 : Vec F S512x512 .f32) (XM : Buf (Elt F) (arg3.view.loc (c : Thread nD τ))) (s : Fin 3) (b : Fin 32)
    (Z0 : Buf (Elt F) ((zblk b).view.loc (c : Thread nD τ))) (P : S2x512x512.Idx → Elt F .f32)
    (f : Buf (Elt F) ((bslot s).view.loc (c : Thread nD τ)))
    (hP : ∀ y, P y = evTab c arg3 v65 XM (blkAt b y)) :
    (Transfers.Flight countersEmb (c : Thread nD τ) (SemLoc.dma (csm s).sem) () 65536
      iprop(zP c b ((zblk b).view.writes (Elt F) Z0 [⟨Rect.whole S2x512x512, P⟩]) ∗ slotP c s f) : sProp 𝕄) ⊢ flightP c arg3 v65 XM s b f := by
  refine Transfers.Flight_mono _ _ ?_
  iintro ⟨H1, H2⟩
  isplitl [H1]
  · iapply (blk_final c arg3 v65 XM b Z0 P hP); iexact H1
  · iexact H2

/-- What trip `k` sends to block `k`: the table's planes. -/
theorem sent_eq (v65 : Vec F S512x512 .f32) (XM : Buf (Elt F) (arg3.view.loc (c : Thread nD τ))) (k : Fin k0_t1_loop.trips)
    (f : Buf (Elt F) ((bslot (Ring.sl 3 k.val)).view.loc (c : Thread nD τ))) (y : S2x512x512.Idx) :
    ReadAs.same.apply ((bslot (Ring.sl 3 k.val)).view.read (Elt F) (bufM.view.writes (Elt F) f
      [⟨Rect.unit (s := S6x512x512) (k0_off5 k 1#32) S1x512x512.size (k0_off5_inb k 1),
          k0_pay10 v65 (arg3.view.readAt (Elt F) (Rect.unit (s := S64x512) (k0_off4 k 1#32) S1x512.size (k0_off4_inb k 1)).toLoadRect XM)⟩,
       ⟨Rect.unit (s := S6x512x512) (k0_off5 k 0#32) S1x512x512.size (k0_off5_inb k 0),
          k0_pay1 io0 io1 v65 (arg3.view.readAt (Elt F) (Rect.unit (s := S64x512) (k0_off4 k 0#32) S1x512.size (k0_off4_inb k 0)).toLoadRect XM)⟩])) y
      = evTab c arg3 v65 XM (blkAt (Ring.bk 32 k.val) y) := by
  have hk : k.val < 32 := k.isLt
  have hb : (Ring.bk 32 k.val).val = k.val := Ring.bk_val hk
  have hy0 : (y 0).val < 2 := (y 0).isLt
  refine (slot_read c (Ring.sl 3 k.val) (off5_eq0 k) (off5_eq1 k) _ _ f _ _ y).trans ?_
  have a0 : ((blkAt (Ring.bk 32 k.val) y) 0).val = 2 * k.val + (y 0).val := by
    show 2 * (Ring.bk 32 k.val).val + 1 * (y 0).val = _; omega
  have a1 : (blkAt (Ring.bk 32 k.val) y) 1 = y 1 := Fin.ext (by show 0 + 1 * (y 1).val = _; omega)
  have a2 : (blkAt (Ring.bk 32 k.val) y) 2 = y 2 := Fin.ext (by show 0 + 1 * (y 2).val = _; omega)
  have row {o : Fin 2 → Nat} (n : Fin 64) (e : o = ![n.val, 0]) (i : ∀ a, o a + S1x512.size a ≤ S64x512.size a) :
      arg3.view.readAt (Elt F) (Rect.unit (s := S64x512) o S1x512.size i).toLoadRect XM = maskRow c arg3 XM n := by subst e; rfl
  unfold evTab
  rw [a1, a2]
  by_cases h : (y 0).val = 1
  · rw [if_pos h]
    rw [row ((blkAt (Ring.bk 32 k.val) y) 0) ((off4_eq1 k).trans (by rw [a0, h])) _]
    rfl
  · rw [if_neg h]
    rw [row ((blkAt (Ring.bk 32 k.val) y) 0) ((off4_eq0 k).trans (by rw [a0, show (y 0).val = 0 by omega]; rfl)) _]

end Pieces

/-! ## One trip -/

section Trip
variable (c : Dev nD)
  (arg0 : Memref sig .tc .smem S1x1 .f32) (harg0 : arg0.IsWhole)
  (arg1 : Memref sig .tc .vmem S512x512 .f32) (harg1 : arg1.IsWhole)
  (arg2 : Memref sig .tc .vmem S512x50 .f32) (harg2 : arg2.IsWhole)
  (arg3 : Memref sig .tc .vmem S64x512 .f32) (harg3 : arg3.IsWhole)
  (arg4 : Memref sig .tc .vmem S64x512 .f32) (harg4 : arg4.IsWhole)
  (arg5 : Memref sig .tc .vmem S50x100 .f32) (harg5 : arg5.IsWhole)
  (arg6 : Memref sig .tc .vmem S100x100 .f32) (harg6 : arg6.IsWhole)
  (arg7 : Memref sig .tc .vmem S100x100 .f32) (harg7 : arg7.IsWhole)
  (arg8 : Memref sig .tc .vmem S1x100 .f32) (harg8 : arg8.IsWhole)
  (arg9 : Memref sig .tc .vmem S100x100 .f32) (harg9 : arg9.IsWhole)
  (arg10 : Memref sig .tc .vmem S1x100 .f32) (harg10 : arg10.IsWhole)
  (arg11 : Memref sig .tc .vmem S100x1 .f32) (harg11 : arg11.IsWhole)
  (arg12 : Memref sig .tc .vmem S1x1 .f32) (harg12 : arg12.IsWhole)
  (arg13 : Memref sig .tc .vmem S100x1 .f32) (harg13 : arg13.IsWhole)
  (arg14 : Memref sig .tc .vmem S1x1 .f32) (harg14 : arg14.IsWhole)
  (arg15 : Memref sig .tc .vmem S100x1 .f32) (harg15 : arg15.IsWhole)
  (arg16 : Memref sig .tc .vmem S1x1 .f32) (harg16 : arg16.IsWhole)
  (arg17 : Memref sig .tc .vmem S100x1 .f32) (harg17 : arg17.IsWhole)
  (arg18 : Memref sig .tc .vmem S100x1 .f32) (harg18 : arg18.IsWhole)
  (arg19 : Memref sig .tc .vmem S1x100 .f32) (harg19 : arg19.IsWhole)
  (arg20 : Memref sig .tc .vmem S512x128 .f32) (harg20 : arg20.IsWhole)
  (arg21 : Memref sig .tc .vmem S1x128 .f32) (harg21 : arg21.IsWhole)
  (arg22 : Memref sig .tc .vmem S128x1 .f32) (harg22 : arg22.IsWhole)
  (arg23 : Memref sig .tc .vmem S1x1 .f32) (harg23 : arg23.IsWhole)
  (arg24 : Memref sig .tc .vmem S64x1 .f32) (harg24 : arg24.IsWhole)
  (arg26 : Memref sig .tc .vmem S512x1 .f32) (harg26 : arg26.IsWhole)
  (arg27 : Memref sig .tc .vmem S64x1 .f32) (harg27 : arg27.IsWhole)
  (arg28 : Memref sig .tc .vmem S64x1 .f32) (harg28 : arg28.IsWhole)
  (v28 v29 : FVec F S512x100 .f32) (v65 : Vec F S512x512 .f32)

abbrev tripG (k : Fin k0_t1_loop.trips) : Prog (TpuEff nD τ sig (Elt F) Λ₀ .tc) Unit :=
  k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 zmM (Memref.isWhole_whole _) arg26 harg26 arg27 harg27 arg28 harg28 zevM (Memref.isWhole_whole _) hM (Memref.isWhole_whole _) fmM (Memref.isWhole_whole _) bufM (Memref.isWhole_whole _) cc0_scratch2 hsM (Memref.isWhole_whole _) zsM (Memref.isWhole_whole _) cc0_scratch5 v28 v29 io0 io1 v65 k ()

theorem tripLo (XM : Buf (Elt F) (arg3.view.loc (c : Thread nD τ))) (Z0 : Buf (Elt F) (zevM.view.loc (c : Thread nD τ)))
    (k : Fin k0_t1_loop.trips) (hk : ¬ 3 ≤ k.val) :
    resAt c arg3 v65 XM Z0 k ⊢ wp frame (wpE (defs₀ (F := F)) Variants.none (c : Thread nD τ) none) Set.univ
      (tripG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg26 harg26 arg27 harg27 arg28 harg28 v28 v29 v65 k)
        (fun _ => resAt c arg3 v65 XM Z0 (k.val + 1)) := by
  have hk32 : k.val < 32 := k.isLt
  have hc : ¬ k0_cond1 k = 1#1 := fun h => hk ((cond1_iff k).1 h)
  unfold resAt
  rw [home_split (fun b => zP c b Z0) hk32]
  rw [show roleAt c arg3 v65 XM k.val = iprop(cellP (F := F) c (Ring.sl 3 k.val) ∗ ∃ f, slotP c (Ring.sl 3 k.val) f) from if_neg hk]
  iintro ⟨HM, ⟨%W, HW⟩, ⟨Hz, Hzs⟩, Hd, ⟨HC, ⟨%f, Hs⟩⟩, R1, R2⟩
  dsimp only [tripG]
  sl_unfold [k0_t1_body]
  sl_exec
  sl_step
  isplitl [HM]; · iexact HM
  isplitl [HW]; · iexists _; iexact HW
  isplitl [Hzs]; · iexact Hzs
  isplitl [Hd]; · irw [show k.val + 1 - 3 = k.val - 3 by omega]; iexact Hd
  isplitl [R1]; · iexact R1
  isplitl [R2]; · iexact R2
  iapply (role_issued c arg3 v65 XM k _)
  iapply (flight_final c arg3 v65 XM (Ring.sl 3 k.val) (Ring.bk 32 k.val) Z0 _ _ (fun y => sent_eq c arg3 v65 XM k f y))
  iexact HC

theorem tripHi (XM : Buf (Elt F) (arg3.view.loc (c : Thread nD τ))) (Z0 : Buf (Elt F) (zevM.view.loc (c : Thread nD τ)))
    (k : Fin k0_t1_loop.trips) (hk : 3 ≤ k.val) :
    resAt c arg3 v65 XM Z0 k ⊢ wp frame (wpE (defs₀ (F := F)) Variants.none (c : Thread nD τ) none) Set.univ
      (tripG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg26 harg26 arg27 harg27 arg28 harg28 v28 v29 v65 k)
        (fun _ => resAt c arg3 v65 XM Z0 (k.val + 1)) := by
  have hk32 : k.val < 32 := k.isLt
  have hc : k0_cond1 k = 1#1 := (cond1_iff k).2 hk
  unfold resAt
  rw [home_split (fun b => zP c b Z0) hk32, done_split (fun b => zP c b (evTab c arg3 v65 XM)) hk hk32]
  rw [show roleAt c arg3 v65 XM k.val = iprop(∃ f, flightP c arg3 v65 XM (Ring.sl 3 k.val) (Ring.bk 32 (k.val - 3)) f) from if_pos hk]
  iintro ⟨HM, ⟨%W, HW⟩, ⟨Hz, Hzs⟩, Hd, ⟨%f, HC⟩, R1, R2⟩
  dsimp only [tripG]
  sl_unfold [k0_t1_body]
  sl_exec
  sl_step
  isplitl [HM]; · iexact HM
  isplitl [HW]; · iexists _; iexact HW
  isplitl [Hzs]; · iexact Hzs
  isplitl [Hd HC_dst]
  · isplitl [HC_dst]; · iexact HC_dst
    iexact Hd
  isplitl [R1]; · iexact R1
  isplitl [R2]; · iexact R2
  iapply (role_issued c arg3 v65 XM k _)
  iapply (flight_final c arg3 v65 XM (Ring.sl 3 k.val) (Ring.bk 32 k.val) Z0 _ _ (fun y => sent_eq c arg3 v65 XM k f y))
  iexact HC

set_option warn.classDefReducibility false in
set_option maxHeartbeats 4000000 in
/-- The loop's invariant: the resources before each trip. -/
@[sl_loop] def loopInv (XM : Buf (Elt F) (arg3.view.loc (c : Thread nD τ))) (Z0 : Buf (Elt F) (zevM.view.loc (c : Thread nD τ))) :
    LoopInvTy_k0_t1 (F := F) Unit ℕ (UU nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 zmM (Memref.isWhole_whole _) arg26 harg26 arg27 harg27 arg28 harg28 zevM (Memref.isWhole_whole _) hM (Memref.isWhole_whole _) fmM (Memref.isWhole_whole _) bufM (Memref.isWhole_whole _) cc0_scratch2 hsM (Memref.isWhole_whole _) zsM (Memref.isWhole_whole _) cc0_scratch5 v28 v29 io0 io1 v65 where
  inv k _ := resAt c arg3 v65 XM Z0 k
  step k _ := by
    by_cases h : 3 ≤ k.val
    · exact tripHi c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg26 harg26 arg27 harg27 arg28 harg28 v28 v29 v65 XM Z0 k h
    · exact tripLo c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg26 harg26 arg27 harg27 arg28 harg28 v28 v29 v65 XM Z0 k h

end Trip

end Cert.KernelIdeal.Hand

end
-- ==== Proof.BodyI.lean ====
/-
  The kernel body run once: its inputs' staging buffers at given contents, the event table's blocks and the scratch
  buffer's slots apart, the loop by its invariant, the epilogue's waits.
-/
module

public import proofs.«01_k».proof.Proof.RingI
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The epilogue's names -/

@[sl_canon] theorem semE0 (hh) : (cc0_scratch2.slice (Rect.unit (s := S3) ![0] S1.size hh)).squeeze S_ squeezes_S1_S_ = csm 0 := csm_congr rfl _ _
@[sl_canon] theorem semE1 (hh) : (cc0_scratch2.slice (Rect.unit (s := S3) ![1] S1.size hh)).squeeze S_ squeezes_S1_S_ = csm 1 := csm_congr rfl _ _
@[sl_canon] theorem semE2 (hh) : (cc0_scratch2.slice (Rect.unit (s := S3) ![2] S1.size hh)).squeeze S_ squeezes_S1_S_ = csm 2 := csm_congr rfl _ _
@[sl_canon] theorem blkE29 (hh hs) : zevM.slice (Rect.unit (s := S64x512x512) ![58, 0, 0] S2x512x512.size hh) hs = zblk 29 := zblk_congr rfl _ _ _ (fun _ => rfl)
@[sl_canon] theorem blkE30 (hh hs) : zevM.slice (Rect.unit (s := S64x512x512) ![60, 0, 0] S2x512x512.size hh) hs = zblk 30 := zblk_congr rfl _ _ _ (fun _ => rfl)
@[sl_canon] theorem blkE31 (hh hs) : zevM.slice (Rect.unit (s := S64x512x512) ![62, 0, 0] S2x512x512.size hh) hs = zblk 31 := zblk_congr rfl _ _ _ (fun _ => rfl)
@[sl_canon] theorem slotE0 (hh hs) : bufM.slice (Rect.unit (s := S6x512x512) ![0, 0, 0] S2x512x512.size hh) hs = bslot 0 := bslot_congr rfl _ _ _ (fun _ => rfl)
@[sl_canon] theorem slotE1 (hh hs) : bufM.slice (Rect.unit (s := S6x512x512) ![2, 0, 0] S2x512x512.size hh) hs = bslot 1 := bslot_congr rfl _ _ _ (fun _ => rfl)
@[sl_canon] theorem slotE2 (hh hs) : bufM.slice (Rect.unit (s := S6x512x512) ![4, 0, 0] S2x512x512.size hh) hs = bslot 2 := bslot_congr rfl _ _ _ (fun _ => rfl)

/-! ## The loop's two ends -/

section Ends
variable (c : Dev nD) (arg3 : Memref sig .tc .vmem S64x512 .f32)

theorem entry (v65 : Vec F S512x512 .f32) (XM : Buf (Elt F) (arg3.view.loc (c : Thread nD τ))) (Z0 : Buf (Elt F) (zevM.view.loc (c : Thread nD τ))) :
    iprop((arg3.view.loc (c : Thread nD τ) ↦[arg3.view.set]{fullShare} XM) ∗ (∃ W, owes (c : Thread nD τ) 0 W)
      ∗ bigSep (Finset.univ : Finset (Fin 32)) (fun b => zP c b Z0)
      ∗ (cellP (F := F) c 0 ∗ ∃ f, slotP c 0 f) ∗ (cellP (F := F) c 1 ∗ ∃ f, slotP c 1 f) ∗ (cellP (F := F) c 2 ∗ ∃ f, slotP c 2 f))
    ⊢ resAt c arg3 v65 XM Z0 0 := by
  have r0 : roleAt c arg3 v65 XM 0 = iprop(cellP (F := F) c 0 ∗ ∃ f, slotP c 0 f) := if_neg (by decide)
  have r1 : roleAt c arg3 v65 XM (0 + 1) = iprop(cellP (F := F) c 1 ∗ ∃ f, slotP c 1 f) := if_neg (by decide)
  have r2 : roleAt c arg3 v65 XM (0 + 2) = iprop(cellP (F := F) c 2 ∗ ∃ f, slotP c 2 f) := if_neg (by decide)
  unfold resAt
  rw [r0, r1, r2, Ring.rangeSet_univ, Ring.rangeSet_empty (NB := 32) (lo := 0) (hi := 0 - 3) (le_refl 0), bigSep_empty]
  iintro ⟨HM, HW, Hz, R0, R1, R2⟩
  isplitl [HM]; · iexact HM
  isplitl [HW]; · iexact HW
  isplitl [Hz]; · iexact Hz
  isplitr; · iempintro
  isplitl [R0]; · iexact R0
  isplitl [R1]; · iexact R1
  iexact R2

theorem exit (v65 : Vec F S512x512 .f32) (XM : Buf (Elt F) (arg3.view.loc (c : Thread nD τ))) (Z0 : Buf (Elt F) (zevM.view.loc (c : Thread nD τ))) :
    resAt c arg3 v65 XM Z0 k0_t1_loop.trips ⊢
    iprop((arg3.view.loc (c : Thread nD τ) ↦[arg3.view.set]{fullShare} XM) ∗ (∃ W, owes (c : Thread nD τ) 0 W)
      ∗ bigSep (Ring.rangeSet 32 0 29) (fun b => zP c b (evTab c arg3 v65 XM))
      ∗ (∃ f, flightP c arg3 v65 XM 2 29 f) ∗ (∃ f, flightP c arg3 v65 XM 0 30 f) ∗ (∃ f, flightP c arg3 v65 XM 1 31 f)) := by
  have r0 : roleAt c arg3 v65 XM 32 = iprop(∃ f, flightP c arg3 v65 XM 2 29 f) := if_pos (by decide)
  have r1 : roleAt c arg3 v65 XM (32 + 1) = iprop(∃ f, flightP c arg3 v65 XM 0 30 f) := if_pos (by decide)
  have r2 : roleAt c arg3 v65 XM (32 + 2) = iprop(∃ f, flightP c arg3 v65 XM 1 31 f) := if_pos (by decide)
  have e : k0_t1_loop.trips = 32 := by decide +kernel
  rw [e]
  unfold resAt
  rw [r0, r1, r2]
  iintro ⟨HM, HW, -, Hd, R0, R1, R2⟩
  isplitl [HM]; · iexact HM
  isplitl [HW]; · iexact HW
  isplitl [Hd]; · iexact Hd
  isplitl [R0]; · iexact R0
  isplitl [R1]; · iexact R1
  iexact R2

theorem all_done (Φ : Fin 32 → sProp 𝕄) :
    iprop(bigSep (Ring.rangeSet 32 0 29) Φ ∗ Φ 29 ∗ Φ 30 ∗ Φ 31) ⊢ bigSep (Finset.univ : Finset (Fin 32)) Φ := by
  rw [← Ring.rangeSet_univ, Ring.bigSep_rangeSet_last (NB := 32) (show 0 < 32 by decide) (le_refl 32),
    Ring.bigSep_rangeSet_last (NB := 32) (show 0 < 31 by decide) (show 31 ≤ 32 by decide),
    Ring.bigSep_rangeSet_last (NB := 32) (show 0 < 30 by decide) (show 30 ≤ 32 by decide)]
  show _ ⊢ iprop(Φ 31 ∗ Φ 30 ∗ Φ 29 ∗ bigSep (Ring.rangeSet 32 0 29) Φ)
  iintro ⟨Hd, H29, H30, H31⟩
  isplitl [H31]; · iexact H31
  isplitl [H30]; · iexact H30
  isplitl [H29]; · iexact H29
  iexact Hd

end Ends

/-! ## The results' values -/

section Vals
variable (x0 : Vec F S1x1 .f32) (x1 : Vec F S512x512 .f32) (x2 : Vec F S512x50 .f32) (x3 x4 : Vec F S64x512 .f32)
  (x5 : Vec F S50x100 .f32) (x6 x7 : Vec F S100x100 .f32) (x8 : Vec F S1x100 .f32) (x9 : Vec F S100x100 .f32) (x10 : Vec F S1x100 .f32)
  (x11 : Vec F S100x1 .f32) (x12 : Vec F S1x1 .f32) (x13 : Vec F S100x1 .f32) (x14 : Vec F S1x1 .f32) (x15 : Vec F S100x1 .f32) (x16 : Vec F S1x1 .f32)
  (x17 x18 : Vec F S100x1 .f32) (x19 : Vec F S1x100 .f32) (x20 : Vec F S512x128 .f32) (x21 : Vec F S1x128 .f32) (x22 : Vec F S128x1 .f32) (x23 : Vec F S1x1 .f32)

/-- The encoder's features, as the body passes them on. -/
abbrev hidV : FVec F S512x100 .f32 := k0_pay2 x1 x2 x5 x6
/-- The result `H`. -/
def hV : FVec F S512x100 .f32 := k0_pay3 x1 x2 x5 x6
/-- The projected features. -/
abbrev projV : FVec F S512x100 .f32 := k0_pay4 x1 x2 x5 x6 x7 x8 x9 x10
/-- The result `Z`. -/
def zV : FVec F S512x512 .f32 := k0_pay8 (projV x1 x2 x5 x6 x7 x8 x9 x10) k0_pay5
/-- The pair factors. -/
def facV : FVec F S512x512 .f32 := k0_pay9 (projV x1 x2 x5 x6 x7 x8 x9 x10) k0_pay5
/-- The result `Z_event`. -/
def evV : FVec F S64x512x512 .f32 := fun y : S64x512x512.Idx =>
  k0_pay1 io0 io1 (facV x1 x2 x5 x6 x7 x8 x9 x10)
    (fun z : S1x512.Idx => x3 ((Rect.unit (s := S64x512) ![(y 0).val, 0] S1x512.size (row_inb (y 0))).emb z))
    (ValueIdx.ix3 (n0 := 1) (n1 := 512) (n2 := 512) 0 (y 1) (y 2))
/-- The result `eta`. -/
def etaV : FVec F S64x1 .f32 := k0_pay14 (hidV x1 x2 x5 x6) x3 x13 x14
/-- The result `gamma`. -/
def gamV : FVec F S64x1 .f32 := k0_pay16 (k0_pay15 (hidV x1 x2 x5 x6) x3 x15 x16)
/-- The word in scalar memory. -/
abbrev wordV : Elt F .f32 := x0 (Shape.Idx.first (by decide))
/-- The result `beta`, as a column. -/
def betaV : FVec F S512x1 .f32 :=
  k0_pay23 (hidV x1 x2 x5 x6) x18 (k0_pay20 (wordV x0)) (k0_pay21 x18 x19 (wordV x0)) (k0_pay22 x18 x19 (wordV x0)) x17
/-- The result `lambda`. -/
def lamV : FVec F S64x1 .f32 :=
  k0_pay25 (k0_pay24 (hidV x1 x2 x5 x6) (k0_pay6 (projV x1 x2 x5 x6 x7 x8 x9 x10) k0_pay5) x3 (k0_pay11 x3) (k0_pay13 (hidV x1 x2 x5 x6) x3 x11 x12)
    (etaV x1 x2 x3 x5 x6 x13 x14) (gamV x1 x2 x3 x5 x6 x15 x16) x18 (k0_pay20 (wordV x0)) (k0_pay21 x18 x19 (wordV x0)) (k0_pay22 x18 x19 (wordV x0)) x17)
    x4 x20 x21 x22 x23
end Vals

/-! ## The body -/

section Body

variable (c : Dev nD)
  (arg0 : Memref sig .tc .smem S1x1 .f32) (harg0 : arg0.IsWhole)
  (arg1 : Memref sig .tc .vmem S512x512 .f32) (harg1 : arg1.IsWhole)
  (arg2 : Memref sig .tc .vmem S512x50 .f32) (harg2 : arg2.IsWhole)
  (arg3 : Memref sig .tc .vmem S64x512 .f32) (harg3 : arg3.IsWhole)
  (arg4 : Memref sig .tc .vmem S64x512 .f32) (harg4 : arg4.IsWhole)
  (arg5 : Memref sig .tc .vmem S50x100 .f32) (harg5 : arg5.IsWhole)
  (arg6 : Memref sig .tc .vmem S100x100 .f32) (harg6 : arg6.IsWhole)
  (arg7 : Memref sig .tc .vmem S100x100 .f32) (harg7 : arg7.IsWhole)
  (arg8 : Memref sig .tc .vmem S1x100 .f32) (harg8 : arg8.IsWhole)
  (arg9 : Memref sig .tc .vmem S100x100 .f32) (harg9 : arg9.IsWhole)
  (arg10 : Memref sig .tc .vmem S1x100 .f32) (harg10 : arg10.IsWhole)
  (arg11 : Memref sig .tc .vmem S100x1 .f32) (harg11 : arg11.IsWhole)
  (arg12 : Memref sig .tc .vmem S1x1 .f32) (harg12 : arg12.IsWhole)
  (arg13 : Memref sig .tc .vmem S100x1 .f32) (harg13 : arg13.IsWhole)
  (arg14 : Memref sig .tc .vmem S1x1 .f32) (harg14 : arg14.IsWhole)
  (arg15 : Memref sig .tc .vmem S100x1 .f32) (harg15 : arg15.IsWhole)
  (arg16 : Memref sig .tc .vmem S1x1 .f32) (harg16 : arg16.IsWhole)
  (arg17 : Memref sig .tc .vmem S100x1 .f32) (harg17 : arg17.IsWhole)
  (arg18 : Memref sig .tc .vmem S100x1 .f32) (harg18 : arg18.IsWhole)
  (arg19 : Memref sig .tc .vmem S1x100 .f32) (harg19 : arg19.IsWhole)
  (arg20 : Memref sig .tc .vmem S512x128 .f32) (harg20 : arg20.IsWhole)
  (arg21 : Memref sig .tc .vmem S1x128 .f32) (harg21 : arg21.IsWhole)
  (arg22 : Memref sig .tc .vmem S128x1 .f32) (harg22 : arg22.IsWhole)
  (arg23 : Memref sig .tc .vmem S1x1 .f32) (harg23 : arg23.IsWhole)
  (arg24 : Memref sig .tc .vmem S64x1 .f32) (harg24 : arg24.IsWhole)
  (arg26 : Memref sig .tc .vmem S512x1 .f32) (harg26 : arg26.IsWhole)
  (arg27 : Memref sig .tc .vmem S64x1 .f32) (harg27 : arg27.IsWhole)
  (arg28 : Memref sig .tc .vmem S64x1 .f32) (harg28 : arg28.IsWhole)
  (X0 : Buf (Elt F) (arg0.view.loc (c : Thread nD τ)))
  (X1 : Buf (Elt F) (arg1.view.loc (c : Thread nD τ)))
  (X2 : Buf (Elt F) (arg2.view.loc (c : Thread nD τ)))
  (X3 : Buf (Elt F) (arg3.view.loc (c : Thread nD τ)))
  (X4 : Buf (Elt F) (arg4.view.loc (c : Thread nD τ)))
  (X5 : Buf (Elt F) (arg5.view.loc (c : Thread nD τ)))
  (X6 : Buf (Elt F) (arg6.view.loc (c : Thread nD τ)))
  (X7 : Buf (Elt F) (arg7.view.loc (c : Thread nD τ)))
  (X8 : Buf (Elt F) (arg8.view.loc (c : Thread nD τ)))
  (X9 : Buf (Elt F) (arg9.view.loc (c : Thread nD τ)))
  (X10 : Buf (Elt F) (arg10.view.loc (c : Thread nD τ)))
  (X11 : Buf (Elt F) (arg11.view.loc (c : Thread nD τ)))
  (X12 : Buf (Elt F) (arg12.view.loc (c : Thread nD τ)))
  (X13 : Buf (Elt F) (arg13.view.loc (c : Thread nD τ)))
  (X14 : Buf (Elt F) (arg14.view.loc (c : Thread nD τ)))
  (X15 : Buf (Elt F) (arg15.view.loc (c : Thread nD τ)))
  (X16 : Buf (Elt F) (arg16.view.loc (c : Thread nD τ)))
  (X17 : Buf (Elt F) (arg17.view.loc (c : Thread nD τ)))
  (X18 : Buf (Elt F) (arg18.view.loc (c : Thread nD τ)))
  (X19 : Buf (Elt F) (arg19.view.loc (c : Thread nD τ)))
  (X20 : Buf (Elt F) (arg20.view.loc (c : Thread nD τ)))
  (X21 : Buf (Elt F) (arg21.view.loc (c : Thread nD τ)))
  (X22 : Buf (Elt F) (arg22.view.loc (c : Thread nD τ)))
  (X23 : Buf (Elt F) (arg23.view.loc (c : Thread nD τ)))

abbrev bodyG : Prog (TpuEff nD τ sig (Elt F) Λ₀ .tc) PUnit :=
  cc0__nts_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 zmM (Memref.isWhole_whole _) arg26 harg26 arg27 harg27 arg28 harg28 zevM (Memref.isWhole_whole _) hM (Memref.isWhole_whole _) fmM (Memref.isWhole_whole _) bufM (Memref.isWhole_whole _) cc0_scratch2 hsM (Memref.isWhole_whole _) zsM (Memref.isWhole_whole _) cc0_scratch5

abbrev PRE (Z0 : Buf (Elt F) (zevM.view.loc (c : Thread nD τ))) : sProp 𝕄 :=
  iprop((arg0.view.loc (c : Thread nD τ) ↦[arg0.view.set]{fullShare} X0)
    ∗ (arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} X10)
    ∗ (arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (arg14.view.loc (c : Thread nD τ) ↦[arg14.view.set]{fullShare} X14)
    ∗ (arg15.view.loc (c : Thread nD τ) ↦[arg15.view.set]{fullShare} X15)
    ∗ (arg16.view.loc (c : Thread nD τ) ↦[arg16.view.set]{fullShare} X16)
    ∗ (arg17.view.loc (c : Thread nD τ) ↦[arg17.view.set]{fullShare} X17)
    ∗ (arg18.view.loc (c : Thread nD τ) ↦[arg18.view.set]{fullShare} X18)
    ∗ (arg19.view.loc (c : Thread nD τ) ↦[arg19.view.set]{fullShare} X19)
    ∗ (arg20.view.loc (c : Thread nD τ) ↦[arg20.view.set]{fullShare} X20)
    ∗ (arg21.view.loc (c : Thread nD τ) ↦[arg21.view.set]{fullShare} X21)
    ∗ (arg22.view.loc (c : Thread nD τ) ↦[arg22.view.set]{fullShare} X22)
    ∗ (arg23.view.loc (c : Thread nD τ) ↦[arg23.view.set]{fullShare} X23)
    ∗ (∃ d, owns (c : Thread nD τ) arg24 fullShare d)
    ∗ (∃ d, owns (c : Thread nD τ) arg26 fullShare d)
    ∗ (∃ d, owns (c : Thread nD τ) arg27 fullShare d)
    ∗ (∃ d, owns (c : Thread nD τ) arg28 fullShare d)
    ∗ (∃ d, owns (c : Thread nD τ) fmM fullShare d)
    ∗ (∃ d, owns (c : Thread nD τ) hsM fullShare d)
    ∗ (∃ d, owns (c : Thread nD τ) zsM fullShare d)
    ∗ (∃ d, owns (c : Thread nD τ) hM fullShare d)
    ∗ (∃ d, owns (c : Thread nD τ) zmM fullShare d)
    ∗ bigSep (Finset.univ : Finset (Fin 32)) (fun b => zP c b Z0)
    ∗ (∃ f, slotP c 0 f) ∗ (∃ f, slotP c 1 f) ∗ (∃ f, slotP c 2 f)
    ∗ cellP (F := F) c 0 ∗ cellP (F := F) c 1 ∗ cellP (F := F) c 2
    ∗ semVal ((c : Thread nD τ), SemLoc.dma 31) 0 ∗ semVal ((c : Thread nD τ), SemLoc.dma 32) 0
    ∗ ∃ W, owes (c : Thread nD τ) 0 W)

/-- What the body hands back: its inputs, the results at their values, its buffers, cells and waits. -/
abbrev POST : sProp 𝕄 :=
  iprop((arg0.view.loc (c : Thread nD τ) ↦[arg0.view.set]{fullShare} X0)
    ∗ (arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} X10)
    ∗ (arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (arg14.view.loc (c : Thread nD τ) ↦[arg14.view.set]{fullShare} X14)
    ∗ (arg15.view.loc (c : Thread nD τ) ↦[arg15.view.set]{fullShare} X15)
    ∗ (arg16.view.loc (c : Thread nD τ) ↦[arg16.view.set]{fullShare} X16)
    ∗ (arg17.view.loc (c : Thread nD τ) ↦[arg17.view.set]{fullShare} X17)
    ∗ (arg18.view.loc (c : Thread nD τ) ↦[arg18.view.set]{fullShare} X18)
    ∗ (arg19.view.loc (c : Thread nD τ) ↦[arg19.view.set]{fullShare} X19)
    ∗ (arg20.view.loc (c : Thread nD τ) ↦[arg20.view.set]{fullShare} X20)
    ∗ (arg21.view.loc (c : Thread nD τ) ↦[arg21.view.set]{fullShare} X21)
    ∗ (arg22.view.loc (c : Thread nD τ) ↦[arg22.view.set]{fullShare} X22)
    ∗ (arg23.view.loc (c : Thread nD τ) ↦[arg23.view.set]{fullShare} X23)
    ∗ owns (c : Thread nD τ) arg24 fullShare (lamV (arg0.view.read (Elt F) X0) (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg12.view.read (Elt F) X12) (arg13.view.read (Elt F) X13) (arg14.view.read (Elt F) X14) (arg15.view.read (Elt F) X15) (arg16.view.read (Elt F) X16) (arg17.view.read (Elt F) X17) (arg18.view.read (Elt F) X18) (arg19.view.read (Elt F) X19) (arg20.view.read (Elt F) X20) (arg21.view.read (Elt F) X21) (arg22.view.read (Elt F) X22) (arg23.view.read (Elt F) X23))
    ∗ owns (c : Thread nD τ) arg26 fullShare (betaV (arg0.view.read (Elt F) X0) (arg1.view.read (Elt F) X1) (arg2.view.read (Elt F) X2) (arg5.view.read (Elt F) X5) (arg6.view.read (Elt F) X6) (arg17.view.read (Elt F) X17) (arg18.view.read (Elt F) X18) (arg19.view.read (Elt F) X19))
    ∗ owns (c : Thread nD τ) arg27 fullShare (gamV (arg1.view.read (Elt F) X1) (arg2.view.read (Elt F) X2) (arg3.view.read (Elt F) X3) (arg5.view.read (Elt F) X5) (arg6.view.read (Elt F) X6) (arg15.view.read (Elt F) X15) (arg16.view.read (Elt F) X16))
    ∗ owns (c : Thread nD τ) arg28 fullShare (etaV (arg1.view.read (Elt F) X1) (arg2.view.read (Elt F) X2) (arg3.view.read (Elt F) X3) (arg5.view.read (Elt F) X5) (arg6.view.read (Elt F) X6) (arg13.view.read (Elt F) X13) (arg14.view.read (Elt F) X14))
    ∗ (∃ d, owns (c : Thread nD τ) fmM fullShare d)
    ∗ (∃ d, owns (c : Thread nD τ) hsM fullShare d)
    ∗ (∃ d, owns (c : Thread nD τ) zsM fullShare d)
    ∗ owns (c : Thread nD τ) hM fullShare (hV (arg1.view.read (Elt F) X1) (arg2.view.read (Elt F) X2) (arg5.view.read (Elt F) X5) (arg6.view.read (Elt F) X6))
    ∗ owns (c : Thread nD τ) zmM fullShare (zV (arg1.view.read (Elt F) X1) (arg2.view.read (Elt F) X2) (arg5.view.read (Elt F) X5) (arg6.view.read (Elt F) X6) (arg7.view.read (Elt F) X7) (arg8.view.read (Elt F) X8) (arg9.view.read (Elt F) X9) (arg10.view.read (Elt F) X10))
    ∗ bigSep (Finset.univ : Finset (Fin 32)) (fun b => zP c b (evV (arg1.view.read (Elt F) X1) (arg2.view.read (Elt F) X2) (arg3.view.read (Elt F) X3) (arg5.view.read (Elt F) X5) (arg6.view.read (Elt F) X6) (arg7.view.read (Elt F) X7) (arg8.view.read (Elt F) X8) (arg9.view.read (Elt F) X9) (arg10.view.read (Elt F) X10)))
    ∗ (∃ f, slotP c 0 f) ∗ (∃ f, slotP c 1 f) ∗ (∃ f, slotP c 2 f)
    ∗ cellP (F := F) c 0 ∗ cellP (F := F) c 1 ∗ cellP (F := F) c 2
    ∗ semVal ((c : Thread nD τ), SemLoc.dma 31) 0 ∗ semVal ((c : Thread nD τ), SemLoc.dma 32) 0
    ∗ ∃ W, owes (c : Thread nD τ) 0 W)

set_option maxHeartbeats 2000000 in
attribute [local irreducible] resAt in
theorem bodyRun (Z0 : Buf (Elt F) (zevM.view.loc (c : Thread nD τ))) (K : PUnit → sProp 𝕄) :
    iprop(PRE c arg0 arg1 arg2 arg3 arg4 arg5 arg6 arg7 arg8 arg9 arg10 arg11 arg12 arg13 arg14 arg15 arg16 arg17 arg18 arg19 arg20 arg21 arg22 arg23 arg24 arg26 arg27 arg28 X0 X1 X2 X3 X4 X5 X6 X7 X8 X9 X10 X11 X12 X13 X14 X15 X16 X17 X18 X19 X20 X21 X22 X23 Z0 ∗ (POST c arg0 arg1 arg2 arg3 arg4 arg5 arg6 arg7 arg8 arg9 arg10 arg11 arg12 arg13 arg14 arg15 arg16 arg17 arg18 arg19 arg20 arg21 arg22 arg23 arg24 arg26 arg27 arg28 X0 X1 X2 X3 X4 X5 X6 X7 X8 X9 X10 X11 X12 X13 X14 X15 X16 X17 X18 X19 X20 X21 X22 X23 -∗ K ⟨⟩)) ⊢ wp frame (wpE (defs₀ (F := F)) Variants.none (c : Thread nD τ) none) Set.univ
      (bodyG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg26 harg26 arg27 harg27 arg28 harg28) K := by
  unfold bodyG
  simp only [cc0__nts_kernel_eq_skeleton]; unfold cc0__nts_kernel_skel
  unfold PRE POST
  unfold owns
  iintro ⟨⟨H0, H1, H2, H3, H4, H5, H6, H7, H8, H9, H10, H11, H12, H13, H14, H15, H16, H17, H18, H19, H20, H21, H22, H23, ⟨%d24, %f24, -, H24⟩, ⟨%d26, %f26, -, H26⟩, ⟨%d27, %f27, -, H27⟩, ⟨%d28, %f28, -, H28⟩, ⟨%dfm, %ffm, -, Hfm⟩, ⟨%dhs, %fhs, -, Hhs⟩, ⟨%dzs, %fzs, -, Hzs⟩, ⟨%dh, %fh, -, Hh⟩, ⟨%dzm, %fzm, -, Hzm⟩, Hz, Hs0, Hs1, Hs2, Hc0, Hc1, Hc2, Hq0, Hq1, HW⟩, Hk⟩
  sl_exec
  ihave HR := (entry c arg3 (bodyRun.sl.v65 c arg1 arg2 arg5 arg6 arg7 arg8 arg9 arg10 X1 X2 X5 X6 X7 X8 X9 X10) X3 Z0) $$ [H3 HW Hz Hs0 Hs1 Hs2 Hc0 Hc1 Hc2]
  · isplitl [H3]; · iexact H3
    isplitl [HW]; · iexact HW
    isplitl [Hz]; · iexact Hz
    isplitl [Hs0 Hc0]
    · isplitl [Hc0]; · iexact Hc0
      iexact Hs0
    isplitl [Hs1 Hc1]
    · isplitl [Hc1]; · iexact Hc1
      iexact Hs1
    isplitl [Hc2]; · iexact Hc2
    iexact Hs2
  sl_exec
  ihave HR := (exit c arg3 _ X3 Z0) $$ [HR]
  · iexact HR
  icases HR with ⟨H3, ⟨%W, HW⟩, Hd, ⟨%g2, Hc2⟩, ⟨%g0, Hc0⟩, ⟨%g1, Hc1⟩⟩
  sl_exec
  sl_step
  have h0 : View.readAt (Elt F) arg0.view (Rect.unit ![0, 0] ![1, 1] inb_S1x1_S1x1_0_0).toLoadRect X0 = arg0.view.read (Elt F) X0 := View.readAt_full _ _ _
  have h1 : View.readAt (Elt F) arg1.view (Rect.unit ![0, 0] ![512, 512] inb_S512x512_S512x512_0_0).toLoadRect X1 = arg1.view.read (Elt F) X1 := View.readAt_full _ _ _
  have h2 : View.readAt (Elt F) arg2.view (Rect.unit ![0, 0] ![512, 50] inb_S512x50_S512x50_0_0).toLoadRect X2 = arg2.view.read (Elt F) X2 := View.readAt_full _ _ _
  have h3 : View.readAt (Elt F) arg3.view (Rect.unit ![0, 0] ![64, 512] inb_S64x512_S64x512_0_0).toLoadRect X3 = arg3.view.read (Elt F) X3 := View.readAt_full _ _ _
  have h4 : View.readAt (Elt F) arg4.view (Rect.unit ![0, 0] ![64, 512] inb_S64x512_S64x512_0_0).toLoadRect X4 = arg4.view.read (Elt F) X4 := View.readAt_full _ _ _
  have h5 : View.readAt (Elt F) arg5.view (Rect.unit ![0, 0] ![50, 100] inb_S50x100_S50x100_0_0).toLoadRect X5 = arg5.view.read (Elt F) X5 := View.readAt_full _ _ _
  have h6 : View.readAt (Elt F) arg6.view (Rect.unit ![0, 0] ![100, 100] inb_S100x100_S100x100_0_0).toLoadRect X6 = arg6.view.read (Elt F) X6 := View.readAt_full _ _ _
  have h7 : View.readAt (Elt F) arg7.view (Rect.unit ![0, 0] ![100, 100] inb_S100x100_S100x100_0_0).toLoadRect X7 = arg7.view.read (Elt F) X7 := View.readAt_full _ _ _
  have h8 : View.readAt (Elt F) arg8.view (Rect.unit ![0, 0] ![1, 100] inb_S1x100_S1x100_0_0).toLoadRect X8 = arg8.view.read (Elt F) X8 := View.readAt_full _ _ _
  have h9 : View.readAt (Elt F) arg9.view (Rect.unit ![0, 0] ![100, 100] inb_S100x100_S100x100_0_0).toLoadRect X9 = arg9.view.read (Elt F) X9 := View.readAt_full _ _ _
  have h10 : View.readAt (Elt F) arg10.view (Rect.unit ![0, 0] ![1, 100] inb_S1x100_S1x100_0_0).toLoadRect X10 = arg10.view.read (Elt F) X10 := View.readAt_full _ _ _
  have h11 : View.readAt (Elt F) arg11.view (Rect.unit ![0, 0] ![100, 1] inb_S100x1_S100x1_0_0).toLoadRect X11 = arg11.view.read (Elt F) X11 := View.readAt_full _ _ _
  have h12 : View.readAt (Elt F) arg12.view (Rect.unit ![0, 0] ![1, 1] inb_S1x1_S1x1_0_0).toLoadRect X12 = arg12.view.read (Elt F) X12 := View.readAt_full _ _ _
  have h13 : View.readAt (Elt F) arg13.view (Rect.unit ![0, 0] ![100, 1] inb_S100x1_S100x1_0_0).toLoadRect X13 = arg13.view.read (Elt F) X13 := View.readAt_full _ _ _
  have h14 : View.readAt (Elt F) arg14.view (Rect.unit ![0, 0] ![1, 1] inb_S1x1_S1x1_0_0).toLoadRect X14 = arg14.view.read (Elt F) X14 := View.readAt_full _ _ _
  have h15 : View.readAt (Elt F) arg15.view (Rect.unit ![0, 0] ![100, 1] inb_S100x1_S100x1_0_0).toLoadRect X15 = arg15.view.read (Elt F) X15 := View.readAt_full _ _ _
  have h16 : View.readAt (Elt F) arg16.view (Rect.unit ![0, 0] ![1, 1] inb_S1x1_S1x1_0_0).toLoadRect X16 = arg16.view.read (Elt F) X16 := View.readAt_full _ _ _
  have h17 : View.readAt (Elt F) arg17.view (Rect.unit ![0, 0] ![100, 1] inb_S100x1_S100x1_0_0).toLoadRect X17 = arg17.view.read (Elt F) X17 := View.readAt_full _ _ _
  have h18 : View.readAt (Elt F) arg18.view (Rect.unit ![0, 0] ![100, 1] inb_S100x1_S100x1_0_0).toLoadRect X18 = arg18.view.read (Elt F) X18 := View.readAt_full _ _ _
  have h19 : View.readAt (Elt F) arg19.view (Rect.unit ![0, 0] ![1, 100] inb_S1x100_S1x100_0_0).toLoadRect X19 = arg19.view.read (Elt F) X19 := View.readAt_full _ _ _
  have h20 : View.readAt (Elt F) arg20.view (Rect.unit ![0, 0] ![512, 128] inb_S512x128_S512x128_0_0).toLoadRect X20 = arg20.view.read (Elt F) X20 := View.readAt_full _ _ _
  have h21 : View.readAt (Elt F) arg21.view (Rect.unit ![0, 0] ![1, 128] inb_S1x128_S1x128_0_0).toLoadRect X21 = arg21.view.read (Elt F) X21 := View.readAt_full _ _ _
  have h22 : View.readAt (Elt F) arg22.view (Rect.unit ![0, 0] ![128, 1] inb_S128x1_S128x1_0_0).toLoadRect X22 = arg22.view.read (Elt F) X22 := View.readAt_full _ _ _
  have h23 : View.readAt (Elt F) arg23.view (Rect.unit ![0, 0] ![1, 1] inb_S1x1_S1x1_0_0).toLoadRect X23 = arg23.view.read (Elt F) X23 := View.readAt_full _ _ _
  have e65 : bodyRun.sl.v65 c arg1 arg2 arg5 arg6 arg7 arg8 arg9 arg10 X1 X2 X5 X6 X7 X8 X9 X10 = (facV (arg1.view.read (Elt F) X1) (arg2.view.read (Elt F) X2) (arg5.view.read (Elt F) X5) (arg6.view.read (Elt F) X6) (arg7.view.read (Elt F) X7) (arg8.view.read (Elt F) X8) (arg9.view.read (Elt F) X9) (arg10.view.read (Elt F) X10)) := by
    unfold bodyRun.sl.v65 bodyRun.sl.Hfm_1
    rw [View.readCov_full]
    delta bodyRun.sl.r_1
    simp only [h0, h1, h2, h3, h4, h5, h6, h7, h8, h9, h10, h11, h12, h13, h14, h15, h16, h17, h18, h19, h20, h21, h22, h23]
    rfl
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]
  · iexists _; isplitr; swap; · iexact H24
    ipureintro
    rw [View.read_writes_full]
    delta bodyRun.sl.r_14 bodyRun.sl.r_13 bodyRun.sl.r_12 bodyRun.sl.r_11 bodyRun.sl.r_10 bodyRun.sl.r_9 bodyRun.sl.r_8 bodyRun.sl.r_7 bodyRun.sl.r_6 bodyRun.sl.r_5 bodyRun.sl.r_4 bodyRun.sl.r_3 bodyRun.sl.r_2 bodyRun.sl.r_1 bodyRun.sl.r
    simp only [h0, h1, h2, h3, h4, h5, h6, h7, h8, h9, h10, h11, h12, h13, h14, h15, h16, h17, h18, h19, h20, h21, h22, h23]
    unfold lamV gamV etaV
    try unfold betaV
    rfl
  isplitl [H26]
  · iexists _; isplitr; swap; · iexact H26
    ipureintro
    rw [View.read_writes_full]
    delta bodyRun.sl.r_14 bodyRun.sl.r_13 bodyRun.sl.r_12 bodyRun.sl.r_11 bodyRun.sl.r_10 bodyRun.sl.r_9 bodyRun.sl.r_8 bodyRun.sl.r_7 bodyRun.sl.r_6 bodyRun.sl.r_5 bodyRun.sl.r_4 bodyRun.sl.r_3 bodyRun.sl.r_2 bodyRun.sl.r_1 bodyRun.sl.r
    simp only [h0, h1, h2, h3, h4, h5, h6, h7, h8, h9, h10, h11, h12, h13, h14, h15, h16, h17, h18, h19, h20, h21, h22, h23]
    unfold betaV
    rfl
  isplitl [H27]
  · iexists _; isplitr; swap; · iexact H27
    ipureintro
    rw [View.read_writes_full]
    delta bodyRun.sl.r_14 bodyRun.sl.r_13 bodyRun.sl.r_12 bodyRun.sl.r_11 bodyRun.sl.r_10 bodyRun.sl.r_9 bodyRun.sl.r_8 bodyRun.sl.r_7 bodyRun.sl.r_6 bodyRun.sl.r_5 bodyRun.sl.r_4 bodyRun.sl.r_3 bodyRun.sl.r_2 bodyRun.sl.r_1 bodyRun.sl.r
    simp only [h0, h1, h2, h3, h4, h5, h6, h7, h8, h9, h10, h11, h12, h13, h14, h15, h16, h17, h18, h19, h20, h21, h22, h23]
    unfold gamV
    rfl
  isplitl [H28]
  · iexists _; isplitr; swap; · iexact H28
    ipureintro
    rw [View.read_writes_full]
    delta bodyRun.sl.r_14 bodyRun.sl.r_13 bodyRun.sl.r_12 bodyRun.sl.r_11 bodyRun.sl.r_10 bodyRun.sl.r_9 bodyRun.sl.r_8 bodyRun.sl.r_7 bodyRun.sl.r_6 bodyRun.sl.r_5 bodyRun.sl.r_4 bodyRun.sl.r_3 bodyRun.sl.r_2 bodyRun.sl.r_1 bodyRun.sl.r
    simp only [h0, h1, h2, h3, h4, h5, h6, h7, h8, h9, h10, h11, h12, h13, h14, h15, h16, h17, h18, h19, h20, h21, h22, h23]
    unfold etaV
    rfl
  isplitl [Hfm]
  · iexists _, _; isplitr; swap; · iexact Hfm
    ipureintro; rfl
  isplitl [Hhs]
  · iexists _, _; isplitr; swap; · iexact Hhs
    ipureintro; rfl
  isplitl [Hzs]
  · iexists _, _; isplitr; swap; · iexact Hzs
    ipureintro; rfl
  isplitl [Hh]
  · iexists _; isplitr; swap; · iexact Hh
    ipureintro
    rw [View.read_writes_whole]
    unfold bodyRun.sl.dma6 bodyRun.sl.Hhs_1
    rw [View.read_writes_full]
    simp only [h0, h1, h2, h3, h4, h5, h6, h7, h8, h9, h10, h11, h12, h13, h14, h15, h16, h17, h18, h19, h20, h21, h22, h23]
    rfl
  isplitl [Hzm]
  · iexists _; isplitr; swap; · iexact Hzm
    ipureintro
    rw [View.read_writes_whole]
    unfold bodyRun.sl.dma12 bodyRun.sl.Hzs_1
    rw [View.read_writes_full]
    delta bodyRun.sl.r_1
    simp only [h0, h1, h2, h3, h4, h5, h6, h7, h8, h9, h10, h11, h12, h13, h14, h15, h16, h17, h18, h19, h20, h21, h22, h23]
    rfl
  isplitl [Hd Hc0_dst Hc1_dst Hc2_dst]
  · have e : evTab c arg3 (bodyRun.sl.v65 c arg1 arg2 arg5 arg6 arg7 arg8 arg9 arg10 X1 X2 X5 X6 X7 X8 X9 X10) X3 = (evV (arg1.view.read (Elt F) X1) (arg2.view.read (Elt F) X2) (arg3.view.read (Elt F) X3) (arg5.view.read (Elt F) X5) (arg6.view.read (Elt F) X6) (arg7.view.read (Elt F) X7) (arg8.view.read (Elt F) X8) (arg9.view.read (Elt F) X9) (arg10.view.read (Elt F) X10)) := by
      rw [e65]; rfl
    irw [← e]
    iapply (all_done (fun b => zP c b (evTab c arg3 (bodyRun.sl.v65 c arg1 arg2 arg5 arg6 arg7 arg8 arg9 arg10 X1 X2 X5 X6 X7 X8 X9 X10) X3)))
    isplitl [Hd]; · iexact Hd
    isplitl [Hc2_dst]; · iexact Hc2_dst
    isplitl [Hc0_dst]; · iexact Hc0_dst
    iexact Hc1_dst
  isplitl [Hc0_src]; · iexists _; iexact Hc0_src
  isplitl [Hc1_src]; · iexists _; iexact Hc1_src
  isplitl [Hc2_src]; · iexists _; iexact Hc2_src
  isplitl [Hc0]; · iexact Hc0
  isplitl [Hc1]; · iexact Hc1
  isplitl [Hc2]; · iexact Hc2
  isplitl [Hq0]; · iexact Hq0
  isplitl [Hq1]; · iexact Hq1
  iexists _; iexact HW

end Body

end Cert.KernelIdeal.Hand

end
-- ==== Proof.SpecI.lean ====
/-
  The body as one triple over its staging buffers: the buffers and semaphores it uses whole before and after, the results at their values.
-/
module

public import proofs.«01_k».proof.Proof.BodyI
public import proofs.«01_k».proof.Proof.Gen.KernelIdeal.Launch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The event table's blocks and the scratch buffer's slots -/

abbrev blkSet (b : Fin 32) : Finset S64x512x512.Idx := (Rect.unit (s := S64x512x512) (blkOff b) S2x512x512.size (blkOff_inb b)).set
abbrev slotSet (b : Fin 3) : Finset S6x512x512.Idx := (Rect.unit (s := S6x512x512) (slotOff b) S2x512x512.size (slotOff_inb b)).set
theorem zblk_set (b : Fin 32) : (zblk b).view.set = blkSet b := View.set_slice_whole ..
theorem bslot_set (s : Fin 3) : (bslot s).view.set = slotSet s := View.set_slice_whole ..

theorem blks_disjoint (b b' : Fin 32) (h : b ≠ b') : Disjoint (blkSet b) (blkSet b') :=
  Ring.lead_disjoint (s := S64x512x512) (0 : Fin 3) 2 blkOff S2x512x512.size blkOff_inb (fun _ => rfl) rfl b b' h
theorem blks_cover : Finset.univ.biUnion blkSet = Finset.univ :=
  Ring.lead_cover (s := S64x512x512) (0 : Fin 3) 2 blkOff S2x512x512.size blkOff_inb (fun _ => rfl)
    (fun b a h => by fin_cases a <;> first | exact absurd rfl h | rfl) rfl
    (fun a h => by fin_cases a <;> first | exact absurd rfl h | rfl) rfl
theorem slots_disjoint (b b' : Fin 3) (h : b ≠ b') : Disjoint (slotSet b) (slotSet b') :=
  Ring.lead_disjoint (s := S6x512x512) (0 : Fin 3) 2 slotOff S2x512x512.size slotOff_inb (fun _ => rfl) rfl b b' h
theorem slots_cover : Finset.univ.biUnion slotSet = Finset.univ :=
  Ring.lead_cover (s := S6x512x512) (0 : Fin 3) 2 slotOff S2x512x512.size slotOff_inb (fun _ => rfl)
    (fun b a h => by fin_cases a <;> first | exact absurd rfl h | rfl) rfl
    (fun a h => by fin_cases a <;> first | exact absurd rfl h | rfl) rfl

theorem zP_eq (c : Dev nD) (b : Fin 32) (f : Buf (Elt F) ((c : Thread nD τ).loc main_v13_5)) :
    (((c : Thread nD τ).loc main_v13_5) ↦[blkSet b]{fullShare} f : sProp 𝕄) = zP c b f := by
  unfold zP; rw [zblk_set]; rfl
theorem slotP_eq (c : Dev nD) (s : Fin 3) (f : Buf (Elt F) ((c : Thread nD τ).loc cc0_scratch1)) :
    slotP c s f = (((c : Thread nD τ).loc cc0_scratch1) ↦[slotSet s]{fullShare} f : sProp 𝕄) := by
  unfold slotP; rw [bslot_set]; rfl

theorem zev_blocks (c : Dev nD) (f : Buf (Elt F) ((c : Thread nD τ).loc main_v13_5)) :
    (((c : Thread nD τ).loc main_v13_5) ↦{fullShare} f : sProp 𝕄) = bigSep (Finset.univ : Finset (Fin 32)) (fun b => zP c b f) :=
  (Ring.pointsTo_blocks (ℓ := (c : Thread nD τ).loc main_v13_5) blkSet blks_disjoint blks_cover f).trans
    (bigSep_congr fun b _ => zP_eq c b f)

theorem slots_split (c : Dev nD) :
    iprop(∃ f : Buf (Elt F) ((c : Thread nD τ).loc cc0_scratch1), ((c : Thread nD τ).loc cc0_scratch1) ↦{fullShare} f)
      ⊢ (iprop((∃ f, slotP c 0 f) ∗ (∃ f, slotP c 1 f) ∗ ∃ f, slotP c 2 f) : sProp 𝕄) :=
  Ring.slots3_split (ℓ := (c : Thread nD τ).loc cc0_scratch1) slotSet slots_disjoint slots_cover
    (fun f => slotP c 0 f) (fun f => slotP c 1 f) (fun f => slotP c 2 f) (slotP_eq c 0) (slotP_eq c 1) (slotP_eq c 2)
theorem slots_join (c : Dev nD) :
    (iprop((∃ f, slotP c 0 f) ∗ (∃ f, slotP c 1 f) ∗ ∃ f, slotP c 2 f) : sProp 𝕄)
      ⊢ iprop(∃ f : Buf (Elt F) ((c : Thread nD τ).loc cc0_scratch1), ((c : Thread nD τ).loc cc0_scratch1) ↦{fullShare} f) :=
  Ring.slots3_join (ℓ := (c : Thread nD τ).loc cc0_scratch1) slotSet slots_disjoint slots_cover
    (fun f => slotP c 0 f) (fun f => slotP c 1 f) (fun f => slotP c 2 f) (slotP_eq c 0) (slotP_eq c 1) (slotP_eq c 2)

/-! ## A buffer held whole, as the body holds it -/

theorem owns_whole (c : Dev nD) (b : Ref sig .tc) (f : Buf (Elt F) ((c : Thread nD τ).loc b)) :
    (((c : Thread nD τ).loc b) ↦{fullShare} f : sProp 𝕄) ⊢ owns (c : Thread nD τ) (Memref.whole b) fullShare f := by
  unfold owns
  iintro H; iexists f; isplitr; · ipureintro; rfl
  rw [View.set_whole]; iexact H
theorem whole_owns (c : Dev nD) (b : Ref sig .tc) (d : b.ty.shape.Idx → Elt F b.ty.elt) :
    owns (c : Thread nD τ) (Memref.whole b) fullShare d ⊢ (((c : Thread nD τ).loc b) ↦{fullShare} (d : Buf (Elt F) ((c : Thread nD τ).loc b)) : sProp 𝕄) := by
  unfold owns
  iintro ⟨%f, %hf, H⟩
  rw [View.set_whole]
  subst hf
  iexact H

theorem owns_at {c : Dev nD} {sp : Space} {s : Shape} {e : EltTy} (M : Memref sig .tc sp s e) (f : Buf (Elt F) (M.view.loc (c : Thread nD τ)))
    (d : s.Idx → Elt F e) (h : M.view.read (Elt F) f = d) :
    (M.view.loc (c : Thread nD τ) ↦[M.view.set]{fullShare} f : sProp 𝕄) ⊢ owns (c : Thread nD τ) M fullShare d := by
  unfold owns
  iintro H; iexists f; isplitr; · ipureintro; exact h
  iexact H
theorem owns_open {c : Dev nD} {sp : Space} {s : Shape} {e : EltTy} (M : Memref sig .tc sp s e) (d : s.Idx → Elt F e) :
    (owns (c : Thread nD τ) M fullShare d : sProp 𝕄) ⊢ iprop(∃ f, ⌜M.view.read (Elt F) f = d⌝ ∗ M.view.loc (c : Thread nD τ) ↦[M.view.set]{fullShare} f) := by
  unfold owns; exact .rfl
theorem owns_to {c : Dev nD} {sp : Space} {s : Shape} {e : EltTy} (M : Memref sig .tc sp s e) (d d' : s.Idx → Elt F e) (h : d = d') :
    (owns (c : Thread nD τ) M fullShare d : sProp 𝕄) ⊢ owns (c : Thread nD τ) M fullShare d' := by rw [h]

theorem zev_to (c : Dev nD) (f : Buf (Elt F) ((c : Thread nD τ).loc main_v13_5)) :
    (((c : Thread nD τ).loc main_v13_5) ↦{fullShare} f : sProp 𝕄) ⊢ bigSep (Finset.univ : Finset (Fin 32)) (fun b => zP c b f) := by rw [zev_blocks]
theorem zev_from (c : Dev nD) (f : Buf (Elt F) ((c : Thread nD τ).loc main_v13_5)) :
    (bigSep (Finset.univ : Finset (Fin 32)) (fun b => zP c b f) : sProp 𝕄) ⊢ (((c : Thread nD τ).loc main_v13_5) ↦{fullShare} f) := by rw [zev_blocks]

/-! ## The body over its operands -/

section Spec

variable (c : Dev nD)
  (arg0 : Memref sig .tc .smem S1x1 .f32) (harg0 : arg0.IsWhole)
  (arg1 : Memref sig .tc .vmem S512x512 .f32) (harg1 : arg1.IsWhole)
  (arg2 : Memref sig .tc .vmem S512x50 .f32) (harg2 : arg2.IsWhole)
  (arg3 : Memref sig .tc .vmem S64x512 .f32) (harg3 : arg3.IsWhole)
  (arg4 : Memref sig .tc .vmem S64x512 .f32) (harg4 : arg4.IsWhole)
  (arg5 : Memref sig .tc .vmem S50x100 .f32) (harg5 : arg5.IsWhole)
  (arg6 : Memref sig .tc .vmem S100x100 .f32) (harg6 : arg6.IsWhole)
  (arg7 : Memref sig .tc .vmem S100x100 .f32) (harg7 : arg7.IsWhole)
  (arg8 : Memref sig .tc .vmem S1x100 .f32) (harg8 : arg8.IsWhole)
  (arg9 : Memref sig .tc .vmem S100x100 .f32) (harg9 : arg9.IsWhole)
  (arg10 : Memref sig .tc .vmem S1x100 .f32) (harg10 : arg10.IsWhole)
  (arg11 : Memref sig .tc .vmem S100x1 .f32) (harg11 : arg11.IsWhole)
  (arg12 : Memref sig .tc .vmem S1x1 .f32) (harg12 : arg12.IsWhole)
  (arg13 : Memref sig .tc .vmem S100x1 .f32) (harg13 : arg13.IsWhole)
  (arg14 : Memref sig .tc .vmem S1x1 .f32) (harg14 : arg14.IsWhole)
  (arg15 : Memref sig .tc .vmem S100x1 .f32) (harg15 : arg15.IsWhole)
  (arg16 : Memref sig .tc .vmem S1x1 .f32) (harg16 : arg16.IsWhole)
  (arg17 : Memref sig .tc .vmem S100x1 .f32) (harg17 : arg17.IsWhole)
  (arg18 : Memref sig .tc .vmem S100x1 .f32) (harg18 : arg18.IsWhole)
  (arg19 : Memref sig .tc .vmem S1x100 .f32) (harg19 : arg19.IsWhole)
  (arg20 : Memref sig .tc .vmem S512x128 .f32) (harg20 : arg20.IsWhole)
  (arg21 : Memref sig .tc .vmem S1x128 .f32) (harg21 : arg21.IsWhole)
  (arg22 : Memref sig .tc .vmem S128x1 .f32) (harg22 : arg22.IsWhole)
  (arg23 : Memref sig .tc .vmem S1x1 .f32) (harg23 : arg23.IsWhole)
  (arg24 : Memref sig .tc .vmem S64x1 .f32) (harg24 : arg24.IsWhole)
  (arg26 : Memref sig .tc .vmem S512x1 .f32) (harg26 : arg26.IsWhole)
  (arg27 : Memref sig .tc .vmem S64x1 .f32) (harg27 : arg27.IsWhole)
  (arg28 : Memref sig .tc .vmem S64x1 .f32) (harg28 : arg28.IsWhole)
  (x0 : Vec F S1x1 .f32)
  (x1 : Vec F S512x512 .f32)
  (x2 : Vec F S512x50 .f32)
  (x3 : Vec F S64x512 .f32)
  (x4 : Vec F S64x512 .f32)
  (x5 : Vec F S50x100 .f32)
  (x6 : Vec F S100x100 .f32)
  (x7 : Vec F S100x100 .f32)
  (x8 : Vec F S1x100 .f32)
  (x9 : Vec F S100x100 .f32)
  (x10 : Vec F S1x100 .f32)
  (x11 : Vec F S100x1 .f32)
  (x12 : Vec F S1x1 .f32)
  (x13 : Vec F S100x1 .f32)
  (x14 : Vec F S1x1 .f32)
  (x15 : Vec F S100x1 .f32)
  (x16 : Vec F S1x1 .f32)
  (x17 : Vec F S100x1 .f32)
  (x18 : Vec F S100x1 .f32)
  (x19 : Vec F S1x100 .f32)
  (x20 : Vec F S512x128 .f32)
  (x21 : Vec F S1x128 .f32)
  (x22 : Vec F S128x1 .f32)
  (x23 : Vec F S1x1 .f32)
  (g1 : Buf (Elt F) ((c : Thread nD τ).loc main_v13_1)) (g5 : Buf (Elt F) ((c : Thread nD τ).loc main_v13_5)) (g6 : Buf (Elt F) ((c : Thread nD τ).loc main_v13_6))

/-- The buffers and semaphores the body uses besides its operands' staging buffers, its three copied-out results at given contents. -/
def Own : sProp 𝕄 :=
  iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch3), ((c : Thread nD τ).loc cc0_scratch3) ↦{fullShare} f)
        ∗ (∃ f : Buf (Elt F) ((c : Thread nD τ).loc cc0_scratch4), ((c : Thread nD τ).loc cc0_scratch4) ↦{fullShare} f))
      ∗ (semVal ((c : Thread nD τ), SemLoc.dma 28) 0 ∗ semVal ((c : Thread nD τ), SemLoc.dma 29) 0
          ∗ semVal ((c : Thread nD τ), SemLoc.dma 30) 0 ∗ semVal ((c : Thread nD τ), SemLoc.dma 31) 0 ∗ semVal ((c : Thread nD τ), SemLoc.dma 32) 0)
      ∗ emp
      ∗ ((((c : Thread nD τ).loc main_v13_1) ↦{fullShare} g1) ∗ (((c : Thread nD τ).loc main_v13_5) ↦{fullShare} g5)
          ∗ (((c : Thread nD τ).loc main_v13_6) ↦{fullShare} g6)))

theorem cell_eq (s : Fin 3) : (csm s).sem = ![28, 29, 30] s := by
  fin_cases s <;> decide

abbrev Ins : sProp 𝕄 :=
  iprop(owns (c : Thread nD τ) arg0 fullShare x0
    ∗ owns (c : Thread nD τ) arg1 fullShare x1
    ∗ owns (c : Thread nD τ) arg2 fullShare x2
    ∗ owns (c : Thread nD τ) arg3 fullShare x3
    ∗ owns (c : Thread nD τ) arg4 fullShare x4
    ∗ owns (c : Thread nD τ) arg5 fullShare x5
    ∗ owns (c : Thread nD τ) arg6 fullShare x6
    ∗ owns (c : Thread nD τ) arg7 fullShare x7
    ∗ owns (c : Thread nD τ) arg8 fullShare x8
    ∗ owns (c : Thread nD τ) arg9 fullShare x9
    ∗ owns (c : Thread nD τ) arg10 fullShare x10
    ∗ owns (c : Thread nD τ) arg11 fullShare x11
    ∗ owns (c : Thread nD τ) arg12 fullShare x12
    ∗ owns (c : Thread nD τ) arg13 fullShare x13
    ∗ owns (c : Thread nD τ) arg14 fullShare x14
    ∗ owns (c : Thread nD τ) arg15 fullShare x15
    ∗ owns (c : Thread nD τ) arg16 fullShare x16
    ∗ owns (c : Thread nD τ) arg17 fullShare x17
    ∗ owns (c : Thread nD τ) arg18 fullShare x18
    ∗ owns (c : Thread nD τ) arg19 fullShare x19
    ∗ owns (c : Thread nD τ) arg20 fullShare x20
    ∗ owns (c : Thread nD τ) arg21 fullShare x21
    ∗ owns (c : Thread nD τ) arg22 fullShare x22
    ∗ owns (c : Thread nD τ) arg23 fullShare x23)

set_option maxHeartbeats 2000000 in
/-- The body's triple. -/
theorem bodySpec (K : PUnit → sProp 𝕄) :
    iprop((Own c g1 g5 g6 ∗ (∃ W, owes (c : Thread nD τ) 0 W) ∗ (∃ d, owns (c : Thread nD τ) arg24 fullShare d)
      ∗ (∃ d, owns (c : Thread nD τ) arg26 fullShare d) ∗ (∃ d, owns (c : Thread nD τ) arg27 fullShare d) ∗ (∃ d, owns (c : Thread nD τ) arg28 fullShare d)
      ∗ Ins c arg0 arg1 arg2 arg3 arg4 arg5 arg6 arg7 arg8 arg9 arg10 arg11 arg12 arg13 arg14 arg15 arg16 arg17 arg18 arg19 arg20 arg21 arg22 arg23 x0 x1 x2 x3 x4 x5 x6 x7 x8 x9 x10 x11 x12 x13 x14 x15 x16 x17 x18 x19 x20 x21 x22 x23)
      ∗ ((Own c (zV x1 x2 x5 x6 x7 x8 x9 x10) (evV x1 x2 x3 x5 x6 x7 x8 x9 x10) (hV x1 x2 x5 x6) ∗ (∃ W, owes (c : Thread nD τ) 0 W) ∗ owns (c : Thread nD τ) arg24 fullShare (lamV x0 x1 x2 x3 x4 x5 x6 x7 x8 x9 x10 x11 x12 x13 x14 x15 x16 x17 x18 x19 x20 x21 x22 x23)
        ∗ owns (c : Thread nD τ) arg26 fullShare (betaV x0 x1 x2 x5 x6 x17 x18 x19) ∗ owns (c : Thread nD τ) arg27 fullShare (gamV x1 x2 x3 x5 x6 x15 x16) ∗ owns (c : Thread nD τ) arg28 fullShare (etaV x1 x2 x3 x5 x6 x13 x14)
        ∗ Ins c arg0 arg1 arg2 arg3 arg4 arg5 arg6 arg7 arg8 arg9 arg10 arg11 arg12 arg13 arg14 arg15 arg16 arg17 arg18 arg19 arg20 arg21 arg22 arg23 x0 x1 x2 x3 x4 x5 x6 x7 x8 x9 x10 x11 x12 x13 x14 x15 x16 x17 x18 x19 x20 x21 x22 x23) -∗ K ⟨⟩))
    ⊢ wp frame (wpE (defs₀ (F := F)) Variants.none (c : Thread nD τ) none) Set.univ (bodyG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg26 harg26 arg27 harg27 arg28 harg28) K := by
  unfold Own Ins
  iintro ⟨⟨⟨⟨HS0, HS1, HS3, HS4⟩, ⟨Hq0, Hq1, Hq2, Hq3, Hq4⟩, -, ⟨Hz, Hev, Hh⟩⟩, ⟨%W, HW⟩, H24, H25, H26, H27, H0, H1, H2, H3, H4, H5, H6, H7, H8, H9, H10, H11, H12, H13, H14, H15, H16, H17, H18, H19, H20, H21, H22, H23⟩, HK⟩
  ihave H0' := owns_open _ _ $$ H0; icases H0' with ⟨%f0, %e0, H0⟩
  ihave H1' := owns_open _ _ $$ H1; icases H1' with ⟨%f1, %e1, H1⟩
  ihave H2' := owns_open _ _ $$ H2; icases H2' with ⟨%f2, %e2, H2⟩
  ihave H3' := owns_open _ _ $$ H3; icases H3' with ⟨%f3, %e3, H3⟩
  ihave H4' := owns_open _ _ $$ H4; icases H4' with ⟨%f4, %e4, H4⟩
  ihave H5' := owns_open _ _ $$ H5; icases H5' with ⟨%f5, %e5, H5⟩
  ihave H6' := owns_open _ _ $$ H6; icases H6' with ⟨%f6, %e6, H6⟩
  ihave H7' := owns_open _ _ $$ H7; icases H7' with ⟨%f7, %e7, H7⟩
  ihave H8' := owns_open _ _ $$ H8; icases H8' with ⟨%f8, %e8, H8⟩
  ihave H9' := owns_open _ _ $$ H9; icases H9' with ⟨%f9, %e9, H9⟩
  ihave H10' := owns_open _ _ $$ H10; icases H10' with ⟨%f10, %e10, H10⟩
  ihave H11' := owns_open _ _ $$ H11; icases H11' with ⟨%f11, %e11, H11⟩
  ihave H12' := owns_open _ _ $$ H12; icases H12' with ⟨%f12, %e12, H12⟩
  ihave H13' := owns_open _ _ $$ H13; icases H13' with ⟨%f13, %e13, H13⟩
  ihave H14' := owns_open _ _ $$ H14; icases H14' with ⟨%f14, %e14, H14⟩
  ihave H15' := owns_open _ _ $$ H15; icases H15' with ⟨%f15, %e15, H15⟩
  ihave H16' := owns_open _ _ $$ H16; icases H16' with ⟨%f16, %e16, H16⟩
  ihave H17' := owns_open _ _ $$ H17; icases H17' with ⟨%f17, %e17, H17⟩
  ihave H18' := owns_open _ _ $$ H18; icases H18' with ⟨%f18, %e18, H18⟩
  ihave H19' := owns_open _ _ $$ H19; icases H19' with ⟨%f19, %e19, H19⟩
  ihave H20' := owns_open _ _ $$ H20; icases H20' with ⟨%f20, %e20, H20⟩
  ihave H21' := owns_open _ _ $$ H21; icases H21' with ⟨%f21, %e21, H21⟩
  ihave H22' := owns_open _ _ $$ H22; icases H22' with ⟨%f22, %e22, H22⟩
  ihave H23' := owns_open _ _ $$ H23; icases H23' with ⟨%f23, %e23, H23⟩
  subst e0 e1 e2 e3 e4 e5 e6 e7 e8 e9 e10 e11 e12 e13 e14 e15 e16 e17 e18 e19 e20 e21 e22 e23
  iapply (bodyRun c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg26 harg26 arg27 harg27 arg28 harg28 f0 f1 f2 f3 f4 f5 f6 f7 f8 f9 f10 f11 f12 f13 f14 f15 f16 f17 f18 f19 f20 f21 f22 f23 g5 K)
  unfold PRE POST
  isplitl [H0 H1 H2 H3 H4 H5 H6 H7 H8 H9 H10 H11 H12 H13 H14 H15 H16 H17 H18 H19 H20 H21 H22 H23 H24 H25 H26 H27 HS0 HS1 HS3 HS4 Hq0 Hq1 Hq2 Hq3 Hq4 Hz Hev Hh HW]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [HS0]; · icases HS0 with ⟨%g, HS0⟩; iexists _; iapply (owns_whole c _ g); iexact HS0
    isplitl [HS3]; · icases HS3 with ⟨%g, HS3⟩; iexists _; iapply (owns_whole c _ g); iexact HS3
    isplitl [HS4]; · icases HS4 with ⟨%g, HS4⟩; iexists _; iapply (owns_whole c _ g); iexact HS4
    isplitl [Hh]; · iexists _; iapply (owns_whole c _ _); iexact Hh
    isplitl [Hz]; · iexists _; iapply (owns_whole c _ _); iexact Hz
    isplitl [Hev]; · iapply (zev_to c _); iexact Hev
    ihave HS1' := slots_split c $$ HS1; icases HS1' with ⟨Hs0, Hs1, Hs2⟩
    isplitl [Hs0]; · iexact Hs0
    isplitl [Hs1]; · iexact Hs1
    isplitl [Hs2]; · iexact Hs2
    isplitl [Hq0]; · iexact Hq0
    isplitl [Hq1]; · iexact Hq1
    isplitl [Hq2]; · iexact Hq2
    isplitl [Hq3]; · iexact Hq3
    isplitl [Hq4]; · iexact Hq4
    iexists W; iexact HW
  iintro ⟨H0, H1, H2, H3, H4, H5, H6, H7, H8, H9, H10, H11, H12, H13, H14, H15, H16, H17, H18, H19, H20, H21, H22, H23, H24, H25, H26, H27, ⟨%d0', HS0⟩, ⟨%d3', HS3⟩, ⟨%d4', HS4⟩, Hh, Hz, Hev, Hs0, Hs1, Hs2, Hq0, Hq1, Hq2, Hq3, Hq4, HW⟩
  iapply HK
  isplitl [HS0 HS3 HS4 Hh Hz Hev Hs0 Hs1 Hs2 Hq0 Hq1 Hq2 Hq3 Hq4]
  · isplitl [HS0 HS3 HS4 Hs0 Hs1 Hs2]
    · isplitl [HS0]; · iexists _; iapply (whole_owns c _ _); iexact HS0
      isplitl [Hs0 Hs1 Hs2]
      · iapply (slots_join c)
        isplitl [Hs0]; · iexact Hs0
        isplitl [Hs1]; · iexact Hs1
        iexact Hs2
      isplitl [HS3]; · iexists _; iapply (whole_owns c _ _); iexact HS3
      iexists _; iapply (whole_owns c _ _); iexact HS4
    isplitl [Hq0 Hq1 Hq2 Hq3 Hq4]
    · isplitl [Hq0]; · iexact Hq0
      isplitl [Hq1]; · iexact Hq1
      isplitl [Hq2]; · iexact Hq2
      isplitl [Hq3]; · iexact Hq3
      iexact Hq4
    isplitr; · iempintro
    isplitl [Hz]; · iapply (whole_owns c _ _); iexact Hz
    isplitl [Hev]; · iapply (zev_from c _); iexact Hev
    iapply (whole_owns c _ _); iexact Hh
  isplitl [HW]; · iexact HW
  isplitl [H24]; · iexact H24
  isplitl [H25]; · iexact H25
  isplitl [H26]; · iexact H26
  isplitl [H27]; · iexact H27
  isplitl [H0]; · iapply (owns_at _ _ _ rfl); iexact H0
  isplitl [H1]; · iapply (owns_at _ _ _ rfl); iexact H1
  isplitl [H2]; · iapply (owns_at _ _ _ rfl); iexact H2
  isplitl [H3]; · iapply (owns_at _ _ _ rfl); iexact H3
  isplitl [H4]; · iapply (owns_at _ _ _ rfl); iexact H4
  isplitl [H5]; · iapply (owns_at _ _ _ rfl); iexact H5
  isplitl [H6]; · iapply (owns_at _ _ _ rfl); iexact H6
  isplitl [H7]; · iapply (owns_at _ _ _ rfl); iexact H7
  isplitl [H8]; · iapply (owns_at _ _ _ rfl); iexact H8
  isplitl [H9]; · iapply (owns_at _ _ _ rfl); iexact H9
  isplitl [H10]; · iapply (owns_at _ _ _ rfl); iexact H10
  isplitl [H11]; · iapply (owns_at _ _ _ rfl); iexact H11
  isplitl [H12]; · iapply (owns_at _ _ _ rfl); iexact H12
  isplitl [H13]; · iapply (owns_at _ _ _ rfl); iexact H13
  isplitl [H14]; · iapply (owns_at _ _ _ rfl); iexact H14
  isplitl [H15]; · iapply (owns_at _ _ _ rfl); iexact H15
  isplitl [H16]; · iapply (owns_at _ _ _ rfl); iexact H16
  isplitl [H17]; · iapply (owns_at _ _ _ rfl); iexact H17
  isplitl [H18]; · iapply (owns_at _ _ _ rfl); iexact H18
  isplitl [H19]; · iapply (owns_at _ _ _ rfl); iexact H19
  isplitl [H20]; · iapply (owns_at _ _ _ rfl); iexact H20
  isplitl [H21]; · iapply (owns_at _ _ _ rfl); iexact H21
  isplitl [H22]; · iapply (owns_at _ _ _ rfl); iexact H22
  iapply (owns_at _ _ _ rfl); iexact H23
end Spec

end Cert.KernelIdeal.Hand

end
-- ==== Proof.DatI.lean ====
/-
  The kernel's one region launched: the invariant between the points, the body at its staging buffers, the contents of the seven results after the run, the arguments as they were and every semaphore at zero.
-/
module

public import proofs.«01_k».proof.Proof.SpecI
public import proofs.«01_k».proof.Proof.Gen.KernelIdeal.Frame
public import Idealize.ShloMosaic.Lib.Pipeline.FrameSuffixV
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## A window over its whole array -/

theorem rect_emb_whole {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole)
    (t : Fin Pipeline.Grid.none.N) (y : s.Idx) :
    ((Pipeline.Window.whole arr isOut sync stage sem harr hstage).rect t).emb y = y :=
  funext fun a => Fin.ext (Pipeline.Window.rect_emb_val_of_index_zero _ t a rfl y)

/-- Its block reads the whole array. -/
theorem blk_whole_read {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole)
    (t : Fin Pipeline.Grid.none.N) (f : arr.view.ty.Contents (Elt F)) :
    (((Pipeline.Window.whole arr isOut sync stage sem harr hstage).blk t).view.read (Elt F) f : s.Idx → Elt F e) = arr.view.read (Elt F) f :=
  funext fun y => by
    have h := rect_emb_whole arr isOut sync stage sem harr hstage t y
    show arr.view.read (Elt F) f (((Pipeline.Window.whole arr isOut sync stage sem harr hstage).rect t).emb y) = _
    rw [h]

variable (m : (ℓ : Loc nD τ sig) → Buf (Elt F) ℓ) (ρ : Dev nD → PrngReg)

/-! ## The results' values, from the arrays as the region finds them -/

def lamC (c : Dev nD) : Vec F S64x1 .f32 := lamV (V m c main_v4) (V m c main_arg2) (V m c main_arg4) (V m c main_arg3) (V m c main_arg5) (V m c main_arg6) (V m c main_arg7) (V m c main_arg8) (V m c main_v6) (V m c main_arg10) (V m c main_v7) (V m c main_arg12) (V m c main_v8) (V m c main_arg14) (V m c main_v9) (V m c main_arg16) (V m c main_v10) (V m c main_arg18) (V m c main_arg19) (V m c main_v5) (V m c main_arg20) (V m c main_v11) (V m c main_arg22) (V m c main_v12)
def betaC (c : Dev nD) : Vec F S512x1 .f32 := betaV (V m c main_v4) (V m c main_arg2) (V m c main_arg4) (V m c main_arg6) (V m c main_arg7) (V m c main_arg18) (V m c main_arg19) (V m c main_v5)
def gamC (c : Dev nD) : Vec F S64x1 .f32 := gamV (V m c main_arg2) (V m c main_arg4) (V m c main_arg3) (V m c main_arg6) (V m c main_arg7) (V m c main_arg16) (V m c main_v10)
def etaC (c : Dev nD) : Vec F S64x1 .f32 := etaV (V m c main_arg2) (V m c main_arg4) (V m c main_arg3) (V m c main_arg6) (V m c main_arg7) (V m c main_arg14) (V m c main_v9)
def hC (c : Dev nD) : Vec F S512x100 .f32 := hV (V m c main_arg2) (V m c main_arg4) (V m c main_arg6) (V m c main_arg7)
def zC (c : Dev nD) : Vec F S512x512 .f32 := zV (V m c main_arg2) (V m c main_arg4) (V m c main_arg6) (V m c main_arg7) (V m c main_arg8) (V m c main_v6) (V m c main_arg10) (V m c main_v7)
def evC (c : Dev nD) : Vec F S64x512x512 .f32 := evV (V m c main_arg2) (V m c main_arg4) (V m c main_arg3) (V m c main_arg6) (V m c main_arg7) (V m c main_arg8) (V m c main_v6) (V m c main_arg10) (V m c main_v7)

/-! ## The same from the windows' blocks at a point -/

def lamT (c : Dev nD) (t : Fin cfg0.N) : Vec F S64x1 .f32 := lamV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
def betaT (c : Dev nD) (t : Fin cfg0.N) : Vec F S512x1 .f32 := betaV (iblk m c 0 t) (iblk m c 1 t) (iblk m c 2 t) (iblk m c 5 t) (iblk m c 6 t) (iblk m c 17 t) (iblk m c 18 t) (iblk m c 19 t)
def gamT (c : Dev nD) (t : Fin cfg0.N) : Vec F S64x1 .f32 := gamV (iblk m c 1 t) (iblk m c 2 t) (iblk m c 3 t) (iblk m c 5 t) (iblk m c 6 t) (iblk m c 15 t) (iblk m c 16 t)
def etaT (c : Dev nD) (t : Fin cfg0.N) : Vec F S64x1 .f32 := etaV (iblk m c 1 t) (iblk m c 2 t) (iblk m c 3 t) (iblk m c 5 t) (iblk m c 6 t) (iblk m c 13 t) (iblk m c 14 t)
def hT (c : Dev nD) (t : Fin cfg0.N) : Vec F S512x100 .f32 := hV (iblk m c 1 t) (iblk m c 2 t) (iblk m c 5 t) (iblk m c 6 t)
def zT (c : Dev nD) (t : Fin cfg0.N) : Vec F S512x512 .f32 := zV (iblk m c 1 t) (iblk m c 2 t) (iblk m c 5 t) (iblk m c 6 t) (iblk m c 7 t) (iblk m c 8 t) (iblk m c 9 t) (iblk m c 10 t)
def evT (c : Dev nD) (t : Fin cfg0.N) : Vec F S64x512x512 .f32 := evV (iblk m c 1 t) (iblk m c 2 t) (iblk m c 3 t) (iblk m c 5 t) (iblk m c 6 t) (iblk m c 7 t) (iblk m c 8 t) (iblk m c 9 t) (iblk m c 10 t)
set_option maxHeartbeats 4000000 in
/-- Each input window's block is its whole array. -/
theorem iblk_eq (c : Dev nD) (t : Fin cfg0.N) : iblk m c 0 t = V m c main_v4
    ∧ iblk m c 1 t = V m c main_arg2
    ∧ iblk m c 2 t = V m c main_arg4
    ∧ iblk m c 3 t = V m c main_arg3
    ∧ iblk m c 4 t = V m c main_arg5
    ∧ iblk m c 5 t = V m c main_arg6
    ∧ iblk m c 6 t = V m c main_arg7
    ∧ iblk m c 7 t = V m c main_arg8
    ∧ iblk m c 8 t = V m c main_v6
    ∧ iblk m c 9 t = V m c main_arg10
    ∧ iblk m c 10 t = V m c main_v7
    ∧ iblk m c 11 t = V m c main_arg12
    ∧ iblk m c 12 t = V m c main_v8
    ∧ iblk m c 13 t = V m c main_arg14
    ∧ iblk m c 14 t = V m c main_v9
    ∧ iblk m c 15 t = V m c main_arg16
    ∧ iblk m c 16 t = V m c main_v10
    ∧ iblk m c 17 t = V m c main_arg18
    ∧ iblk m c 18 t = V m c main_arg19
    ∧ iblk m c 19 t = V m c main_v5
    ∧ iblk m c 20 t = V m c main_arg20
    ∧ iblk m c 21 t = V m c main_v11
    ∧ iblk m c 22 t = V m c main_arg22
    ∧ iblk m c 23 t = V m c main_v12 :=
  ⟨blk_whole_read (Memref.whole main_v4) false false (stage0_0 0) (sem0_0 0) (Memref.isWhole_whole _) (hstage0_0 0) t (V m c main_v4),
   blk_whole_read (Memref.whole main_arg2) false false (stage0_1 0) (sem0_1 0) (Memref.isWhole_whole _) (hstage0_1 0) t (V m c main_arg2),
   blk_whole_read (Memref.whole main_arg4) false false (stage0_2 0) (sem0_2 0) (Memref.isWhole_whole _) (hstage0_2 0) t (V m c main_arg4),
   blk_whole_read (Memref.whole main_arg3) false false (stage0_3 0) (sem0_3 0) (Memref.isWhole_whole _) (hstage0_3 0) t (V m c main_arg3),
   blk_whole_read (Memref.whole main_arg5) false false (stage0_4 0) (sem0_4 0) (Memref.isWhole_whole _) (hstage0_4 0) t (V m c main_arg5),
   blk_whole_read (Memref.whole main_arg6) false false (stage0_5 0) (sem0_5 0) (Memref.isWhole_whole _) (hstage0_5 0) t (V m c main_arg6),
   blk_whole_read (Memref.whole main_arg7) false false (stage0_6 0) (sem0_6 0) (Memref.isWhole_whole _) (hstage0_6 0) t (V m c main_arg7),
   blk_whole_read (Memref.whole main_arg8) false false (stage0_7 0) (sem0_7 0) (Memref.isWhole_whole _) (hstage0_7 0) t (V m c main_arg8),
   blk_whole_read (Memref.whole main_v6) false false (stage0_8 0) (sem0_8 0) (Memref.isWhole_whole _) (hstage0_8 0) t (V m c main_v6),
   blk_whole_read (Memref.whole main_arg10) false false (stage0_9 0) (sem0_9 0) (Memref.isWhole_whole _) (hstage0_9 0) t (V m c main_arg10),
   blk_whole_read (Memref.whole main_v7) false false (stage0_10 0) (sem0_10 0) (Memref.isWhole_whole _) (hstage0_10 0) t (V m c main_v7),
   blk_whole_read (Memref.whole main_arg12) false false (stage0_11 0) (sem0_11 0) (Memref.isWhole_whole _) (hstage0_11 0) t (V m c main_arg12),
   blk_whole_read (Memref.whole main_v8) false false (stage0_12 0) (sem0_12 0) (Memref.isWhole_whole _) (hstage0_12 0) t (V m c main_v8),
   blk_whole_read (Memref.whole main_arg14) false false (stage0_13 0) (sem0_13 0) (Memref.isWhole_whole _) (hstage0_13 0) t (V m c main_arg14),
   blk_whole_read (Memref.whole main_v9) false false (stage0_14 0) (sem0_14 0) (Memref.isWhole_whole _) (hstage0_14 0) t (V m c main_v9),
   blk_whole_read (Memref.whole main_arg16) false false (stage0_15 0) (sem0_15 0) (Memref.isWhole_whole _) (hstage0_15 0) t (V m c main_arg16),
   blk_whole_read (Memref.whole main_v10) false false (stage0_16 0) (sem0_16 0) (Memref.isWhole_whole _) (hstage0_16 0) t (V m c main_v10),
   blk_whole_read (Memref.whole main_arg18) false false (stage0_17 0) (sem0_17 0) (Memref.isWhole_whole _) (hstage0_17 0) t (V m c main_arg18),
   blk_whole_read (Memref.whole main_arg19) false false (stage0_18 0) (sem0_18 0) (Memref.isWhole_whole _) (hstage0_18 0) t (V m c main_arg19),
   blk_whole_read (Memref.whole main_v5) false false (stage0_19 0) (sem0_19 0) (Memref.isWhole_whole _) (hstage0_19 0) t (V m c main_v5),
   blk_whole_read (Memref.whole main_arg20) false false (stage0_20 0) (sem0_20 0) (Memref.isWhole_whole _) (hstage0_20 0) t (V m c main_arg20),
   blk_whole_read (Memref.whole main_v11) false false (stage0_21 0) (sem0_21 0) (Memref.isWhole_whole _) (hstage0_21 0) t (V m c main_v11),
   blk_whole_read (Memref.whole main_arg22) false false (stage0_22 0) (sem0_22 0) (Memref.isWhole_whole _) (hstage0_22 0) t (V m c main_arg22),
   blk_whole_read (Memref.whole main_v12) false false (stage0_23 0) (sem0_23 0) (Memref.isWhole_whole _) (hstage0_23 0) t (V m c main_v12)⟩
theorem lamT_eq (c : Dev nD) (t : Fin cfg0.N) : lamT m c t = lamC m c := by
  obtain ⟨h0, h1, h2, h3, h4, h5, h6, h7, h8, h9, h10, h11, h12, h13, h14, h15, h16, h17, h18, h19, h20, h21, h22, h23⟩ := iblk_eq m c t
  unfold lamT lamC
  rw [h0, h1, h2, h3, h4, h5, h6, h7, h8, h9, h10, h11, h12, h13, h14, h15, h16, h17, h18, h19, h20, h21, h22, h23]
theorem betaT_eq (c : Dev nD) (t : Fin cfg0.N) : betaT m c t = betaC m c := by
  obtain ⟨h0, h1, h2, h3, h4, h5, h6, h7, h8, h9, h10, h11, h12, h13, h14, h15, h16, h17, h18, h19, h20, h21, h22, h23⟩ := iblk_eq m c t
  unfold betaT betaC
  rw [h0, h1, h2, h5, h6, h17, h18, h19]
theorem gamT_eq (c : Dev nD) (t : Fin cfg0.N) : gamT m c t = gamC m c := by
  obtain ⟨h0, h1, h2, h3, h4, h5, h6, h7, h8, h9, h10, h11, h12, h13, h14, h15, h16, h17, h18, h19, h20, h21, h22, h23⟩ := iblk_eq m c t
  unfold gamT gamC
  rw [h1, h2, h3, h5, h6, h15, h16]
theorem etaT_eq (c : Dev nD) (t : Fin cfg0.N) : etaT m c t = etaC m c := by
  obtain ⟨h0, h1, h2, h3, h4, h5, h6, h7, h8, h9, h10, h11, h12, h13, h14, h15, h16, h17, h18, h19, h20, h21, h22, h23⟩ := iblk_eq m c t
  unfold etaT etaC
  rw [h1, h2, h3, h5, h6, h13, h14]
theorem hT_eq (c : Dev nD) (t : Fin cfg0.N) : hT m c t = hC m c := by
  obtain ⟨h0, h1, h2, h3, h4, h5, h6, h7, h8, h9, h10, h11, h12, h13, h14, h15, h16, h17, h18, h19, h20, h21, h22, h23⟩ := iblk_eq m c t
  unfold hT hC
  rw [h1, h2, h5, h6]
theorem zT_eq (c : Dev nD) (t : Fin cfg0.N) : zT m c t = zC m c := by
  obtain ⟨h0, h1, h2, h3, h4, h5, h6, h7, h8, h9, h10, h11, h12, h13, h14, h15, h16, h17, h18, h19, h20, h21, h22, h23⟩ := iblk_eq m c t
  unfold zT zC
  rw [h1, h2, h5, h6, h7, h8, h9, h10]
theorem evT_eq (c : Dev nD) (t : Fin cfg0.N) : evT m c t = evC m c := by
  obtain ⟨h0, h1, h2, h3, h4, h5, h6, h7, h8, h9, h10, h11, h12, h13, h14, h15, h16, h17, h18, h19, h20, h21, h22, h23⟩ := iblk_eq m c t
  unfold evT evC
  rw [h1, h2, h3, h5, h6, h7, h8, h9, h10]
/-! ## The buffers the body writes itself, its semaphores -/

def R0 : Finset (Ref sig .tc) := {main_v13_1, main_v13_5, main_v13_6}
theorem R0_sub : R0 ⊆ Pipeline.restRefs sig spec0 \ (∅ : Finset (Ref sig .tc)) := by decide

/-- The contents of the buffers after the body: the three results it copies out itself at their values. -/
def GG (c : Dev nD) : (b : Ref sig .tc) → Buf (Elt F) ((c : Thread nD τ).loc b) :=
  Function.update (Function.update (Function.update (V m c) main_v13_1 (zT m c t0_0)) main_v13_5 (evT m c t0_0)) main_v13_6 (hT m c t0_0)
theorem GG_z (c : Dev nD) : GG m c main_v13_1 = zT m c t0_0 := by
  unfold GG; rw [Function.update_of_ne (by decide), Function.update_of_ne (by decide), Function.update_self]
theorem GG_ev (c : Dev nD) : GG m c main_v13_5 = evT m c t0_0 := by
  unfold GG; rw [Function.update_of_ne (by decide), Function.update_self]
theorem GG_h (c : Dev nD) : GG m c main_v13_6 = hT m c t0_0 := by
  unfold GG; rw [Function.update_self]

abbrev osem0 : Fin 5 → SemLoc sig := fun j => (![SemLoc.dma 28, SemLoc.dma 29, SemLoc.dma 30, SemLoc.dma 31, SemLoc.dma 32] : Fin 5 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 28) 0 ∗ semVal ((c : Thread nD τ), SemLoc.dma 29) 0
          ∗ semVal ((c : Thread nD τ), SemLoc.dma 30) 0 ∗ semVal ((c : Thread nD τ), SemLoc.dma 31) 0 ∗ semVal ((c : Thread nD τ), SemLoc.dma 32) 0) := by
  rw [Pipeline.ownSems0_eq_of_list c osem0 [0, 1, 2, 3, 4] (by decide) (by decide)]; rfl

theorem R0_eq (c : Dev nD) (G : (b : Ref sig .tc) → Buf (Elt F) ((c : Thread nD τ).loc b)) :
    (bigSep R0 (fun b => ((c : Thread nD τ).loc b) ↦{fullShare} G b) : sProp 𝕄)
      = iprop((((c : Thread nD τ).loc main_v13_1) ↦{fullShare} G main_v13_1) ∗ (((c : Thread nD τ).loc main_v13_5) ↦{fullShare} G main_v13_5)
          ∗ (((c : Thread nD τ).loc main_v13_6) ↦{fullShare} G main_v13_6)) := by
  rw [BI.bigSep_eq_bigSepL_of_eq [main_v13_1, main_v13_5, main_v13_6] (by decide) (by decide)]; rfl

abbrev PhiOf (c : Dev nD) (G : (c : Dev nD) → (b : Ref sig .tc) → Buf (Elt F) ((c : Thread nD τ).loc b)) : sProp 𝕄 :=
  Pipeline.ΦDRV osem0 spec0 (∅ : Finset (Ref sig .tc)) R0 (V m) G c

/-- The invariant's parts. -/
theorem PhiOf_eq (c : Dev nD) (G : (c : Dev nD) → (b : Ref sig .tc) → Buf (Elt F) ((c : Thread nD τ).loc b)) :
    PhiOf m c G = Own c (G c main_v13_1) (G c main_v13_5) (G c main_v13_6) := by
  unfold PhiOf Pipeline.ΦDRV Own
  rw [scopedRest0_eq, ownSems00_eq, R0_eq, bigSep_empty]; rfl

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => lamT m c t
    | ⟨25, _⟩ => betaT m c t
    | ⟨26, _⟩ => gamT m c t
    | ⟨27, _⟩ => etaT m c t
    | ⟨_ + 28, h⟩ => absurd h (Nat.not_lt.2 (Nat.le_add_left _ _))
  Φ t := if t.val = 0 then PhiOf m c (V m) else PhiOf m c (GG m)
  q _ := fullShare
  owed _ := 0

theorem A_eq (c : Dev nD) (w : Fin cfg0.W) : (dats m 0 c).A w = V m c (Pipeline.arrRef spec0 w) := by
  dsimp only [dats]

set_option maxHeartbeats 4000000 in
/-- An input window's staging buffer holds its block when the body finds it, and is left so. -/
theorem before_in (c : Dev nD) (w : Fin cfg0.W) (hw : w.val < 24) (t : Fin cfg0.N) (d) : (dats m 0 c).before w t d = (dats m 0 c).after w t := by
  obtain ⟨k, hk⟩ := w
  have hk' : k < 24 := hw
  clear hw
  interval_cases k <;> exact ((dats m 0 c).before_in_eq_fetched _ rfl (fun _ => rfl) (fun _ _ _ => rfl) (fun t => rfl) t d).trans rfl

theorem find_in (c : Dev nD) (w : Fin cfg0.W) (hw : w.val < 24) (t : Fin cfg0.N) :
    (iprop(∃ d, owns (c : Thread nD τ) ((cfg0.win w).stage (cfg0.slots t w)) fullShare ((dats m 0 c).before w t d)) : sProp 𝕄)
      ⊢ owns (c : Thread nD τ) ((cfg0.win w).stage (cfg0.slots t w)) fullShare ((dats m 0 c).after w t) := by
  iintro ⟨%d, H⟩
  rw [before_in m c w hw t d]
  iexact H

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

theorem Phi_eq (c : Dev nD) (t) : (dats m 0 c).Φ t = if t.val = 0 then PhiOf m c (V m) else PhiOf m c (GG m) := rfl
theorem Phi_cast (c : Dev nD) (t : Fin cfg0.N) : (dats m 0 c).Φ t.castSucc = PhiOf m c (V m) := by
  rw [Phi_eq, if_pos (show t.castSucc.val = 0 by rw [fin_N0 t]; rfl)]
theorem Phi_succ (c : Dev nD) (t : Fin cfg0.N) : (dats m 0 c).Φ t.succ = PhiOf m c (GG m) := by
  rw [Phi_eq, if_neg (show ¬ t.succ.val = 0 from Nat.succ_ne_zero _)]

set_option maxHeartbeats 2000000 in
/-- The body at the point, on its staging buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_cast, Phi_succ, PhiOf_eq, PhiOf_eq, GG_z, GG_ev, GG_h, ← fin_N0 t]
  unfold Dat.owesAt Pipeline.owesWithin
  rw [show (dats m 0 c).owed t.castSucc = 0 from rfl, show (dats m 0 c).owed t.succ = 0 from rfl]
  iintro ⟨HO, ⟨%W, -, HW⟩, H0, H1, H2, H3, H4, H5, H6, H7, H8, H9, H10, H11, H12, H13, H14, H15, H16, H17, H18, H19, H20, H21, H22, H23, ⟨%d24, H24⟩, ⟨%d25, H25⟩, ⟨%d26, H26⟩, ⟨%d27, H27⟩⟩
  iapply (bodySpec c (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (st0_9 t) (hstage0_9 0) (st0_10 t) (hstage0_10 0) (st0_11 t) (hstage0_11 0) (st0_12 t) (hstage0_12 0) (st0_13 t) (hstage0_13 0) (st0_14 t) (hstage0_14 0) (st0_15 t) (hstage0_15 0) (st0_16 t) (hstage0_16 0) (st0_17 t) (hstage0_17 0) (st0_18 t) (hstage0_18 0) (st0_19 t) (hstage0_19 0) (st0_20 t) (hstage0_20 0) (st0_21 t) (hstage0_21 0) (st0_22 t) (hstage0_22 0) (st0_23 t) (hstage0_23 0) (st0_24 t) (hstage0_24 0) (st0_25 t) (hstage0_25 0) (st0_26 t) (hstage0_26 0) (st0_27 t) (hstage0_27 0) ((dats m 0 c).after 0 t) ((dats m 0 c).after 1 t) ((dats m 0 c).after 2 t) ((dats m 0 c).after 3 t) ((dats m 0 c).after 4 t) ((dats m 0 c).after 5 t) ((dats m 0 c).after 6 t) ((dats m 0 c).after 7 t) ((dats m 0 c).after 8 t) ((dats m 0 c).after 9 t) ((dats m 0 c).after 10 t) ((dats m 0 c).after 11 t) ((dats m 0 c).after 12 t) ((dats m 0 c).after 13 t) ((dats m 0 c).after 14 t) ((dats m 0 c).after 15 t) ((dats m 0 c).after 16 t) ((dats m 0 c).after 17 t) ((dats m 0 c).after 18 t) ((dats m 0 c).after 19 t) ((dats m 0 c).after 20 t) ((dats m 0 c).after 21 t) ((dats m 0 c).after 22 t) ((dats m 0 c).after 23 t) (V m c main_v13_1) (V m c main_v13_5) (V m c main_v13_6) _)
  isplitl [HO HW H0 H1 H2 H3 H4 H5 H6 H7 H8 H9 H10 H11 H12 H13 H14 H15 H16 H17 H18 H19 H20 H21 H22 H23 H24 H25 H26 H27]
  · isplitl [HO]; · iexact HO
    isplitl [HW]; · iexists W; iexact HW
    isplitl [H24]; · iexists _; iexact H24
    isplitl [H25]; · iexists _; iexact H25
    isplitl [H26]; · iexists _; iexact H26
    isplitl [H27]; · iexists _; iexact H27
    unfold Ins
    isplitl [H0]; · iapply (find_in m c 0 (by decide) t); iexact H0
    isplitl [H1]; · iapply (find_in m c 1 (by decide) t); iexact H1
    isplitl [H2]; · iapply (find_in m c 2 (by decide) t); iexact H2
    isplitl [H3]; · iapply (find_in m c 3 (by decide) t); iexact H3
    isplitl [H4]; · iapply (find_in m c 4 (by decide) t); iexact H4
    isplitl [H5]; · iapply (find_in m c 5 (by decide) t); iexact H5
    isplitl [H6]; · iapply (find_in m c 6 (by decide) t); iexact H6
    isplitl [H7]; · iapply (find_in m c 7 (by decide) t); iexact H7
    isplitl [H8]; · iapply (find_in m c 8 (by decide) t); iexact H8
    isplitl [H9]; · iapply (find_in m c 9 (by decide) t); iexact H9
    isplitl [H10]; · iapply (find_in m c 10 (by decide) t); iexact H10
    isplitl [H11]; · iapply (find_in m c 11 (by decide) t); iexact H11
    isplitl [H12]; · iapply (find_in m c 12 (by decide) t); iexact H12
    isplitl [H13]; · iapply (find_in m c 13 (by decide) t); iexact H13
    isplitl [H14]; · iapply (find_in m c 14 (by decide) t); iexact H14
    isplitl [H15]; · iapply (find_in m c 15 (by decide) t); iexact H15
    isplitl [H16]; · iapply (find_in m c 16 (by decide) t); iexact H16
    isplitl [H17]; · iapply (find_in m c 17 (by decide) t); iexact H17
    isplitl [H18]; · iapply (find_in m c 18 (by decide) t); iexact H18
    isplitl [H19]; · iapply (find_in m c 19 (by decide) t); iexact H19
    isplitl [H20]; · iapply (find_in m c 20 (by decide) t); iexact H20
    isplitl [H21]; · iapply (find_in m c 21 (by decide) t); iexact H21
    isplitl [H22]; · iapply (find_in m c 22 (by decide) t); iexact H22
    iapply (find_in m c 23 (by decide) t); iexact H23
  unfold Ins
  iintro ⟨HO, ⟨%W', HW'⟩, H24, H25, H26, H27, H0, H1, H2, H3, H4, H5, H6, H7, H8, H9, H10, H11, H12, H13, H14, H15, H16, H17, H18, H19, H20, H21, H22, H23⟩
  isplitl [HO]; · iexact HO
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Hand

end
-- ==== Proof.RunI.lean ====
/-
  The run of the whole program: the contents of the seven results, the arguments as they were, every semaphore at zero.
-/
module

public import proofs.«01_k».proof.Proof.DatI

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The run -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The buffers at the region's exit. -/
abbrev exitV (c : Dev nD) : Valuation τ sig (Elt F) :=
  Pipeline.withArrays spec0 c (Pipeline.withR (V0 m c) R0 c (GG m c)) fun w => (dats m 0 c).arrAt w cfg0.N

/-- What the run leaves: the windows' arrays, the other buffers, every semaphore at zero. -/
def RunPost (r : PUnit × MemSt nD τ sig (Elt F)) : Prop :=
  (∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = StableHlo.after ([hostOps1] : List (List (HloOp τ sig (Elt F)))).flatten (exitV m c) (Proc.devRef .tc b))
  ∧ r.2.sem = fun _ => 0

set_option backward.isDefEq.respectTransparency.types false in
theorem run_main : θ_run defs (onTc (τ := τ) (main (F := F))) (s₀ m ρ) (RunPost m) :=
  Pipeline.θ_run_frame_dmaR_aroundV (Q' := RunPost m) (hQ' := fun r h => h) cfgs (dats m) (0 : Fin 1) launch0 osem0 defs₀ Variants.none ownSemFacts0 ∅ R0
    (Finset.empty_subset _) R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := GG m)
    (hmain := hmainD m Variants.none) (hA := A_eq m)
    (hin := fun c => by rw [show (dats m 0 c).Φ 0 = PhiOf m c (V m) from (Phi_eq m c 0).trans (if_pos rfl)])
    (hout := fun c => by rw [show (dats m 0 c).Φ (Fin.last cfg0.N) = PhiOf m c (GG m) by rw [Phi_eq, if_neg (by decide)]])

/-! ## The buffers after the run -/

/-- A buffer the host lines before and after the region leave alone, that is no window's array and none of the body's own results. -/
theorem exit_keep (c : Dev nD) (b : Ref sig .tc) (h14 : b ≠ main_v14) (hw : ∀ w, Pipeline.arrRef spec0 w ≠ b) :
    StableHlo.after ([hostOps1] : List (List (HloOp τ sig (Elt F)))).flatten (exitV m c) (Proc.devRef .tc b)
      = Pipeline.withR (V0 m c) R0 c (GG m c) (Proc.devRef .tc b) := by
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne h14))]
  exact Pipeline.withArrays_of_ne spec0 c _ _ b hw

theorem rest_keep {r : PUnit × MemSt nD τ sig (Elt F)} (h : RunPost m r) (c : Dev nD) (b : Ref sig .tc) (hs : b ∈ Pipeline.restRefs sig spec0) (h14 : b ≠ main_v14)
    (hw : ∀ w, Pipeline.arrRef spec0 w ≠ b) (hR : b ∉ R0) : r.2.mem ((c.tc : Thread nD τ).loc b) = V m c b :=
  ((h.1 c).2 b hs).trans ((exit_keep m c b h14 hw).trans (Pipeline.withR_of_not_mem _ _ _ _ b hR))
theorem rest_own {r : PUnit × MemSt nD τ sig (Elt F)} (h : RunPost m r) (c : Dev nD) (b : Ref sig .tc) (hs : b ∈ Pipeline.restRefs sig spec0) (h14 : b ≠ main_v14)
    (hw : ∀ w, Pipeline.arrRef spec0 w ≠ b) (hR : b ∈ R0) : r.2.mem ((c.tc : Thread nD τ).loc b) = GG m c b :=
  ((h.1 c).2 b hs).trans ((exit_keep m c b h14 hw).trans (Pipeline.withR_of_mem _ _ _ _ b hR))
theorem win_keep {r : PUnit × MemSt nD τ sig (Elt F)} (h : RunPost m r) (c : Dev nD) (w : Fin cfg0.W) (hin : (cfg0.win w).isOut = false) :
    r.2.mem ((spec0 w).arr.view.loc (c.tc : Thread nD τ)) = V m c (Pipeline.arrRef spec0 w) :=
  ((h.1 c).1 w).trans (((dats m 0 c).arrAt_in w hin _).trans (A_eq m c w))

/-- An output window's array after the run: what its one point left in its staging buffer. -/
theorem arr_out {s : Shape} {e : EltTy} {cs : CoreSpace} (arr : Memref sig .tc .hbm s e) (sync : Bool)
    (stage : Memref sig .tc (.core cs) ⟨s.rank, s.size⟩ e) (sem : DmaSem sig) (harr : arr.IsWhole) (hstage : stage.IsWhole) (t : Fin Pipeline.Grid.none.N) (i : arr.view.ty.Idx)
    (h : i ∈ arr.view.set) : i ∈ ((Pipeline.Window.whole arr true sync stage sem harr hstage).blk t).view.set := by
  obtain ⟨y, -, rfl⟩ := Finset.mem_map.mp h
  have := ((Pipeline.Window.whole arr true sync stage sem harr hstage).blk t).view.emb_mem_set y
  rwa [show ((Pipeline.Window.whole arr true sync stage sem harr hstage).blk t).view.emb y = arr.view.emb y from
    congrArg arr.view.emb (rect_emb_whole arr true sync stage sem harr hstage t y)] at this

theorem arr24 (c : Dev nD) : (dats m 0 c).arrAt 24 cfg0.N = lamC m c :=
  (dats m 0 c).arrAt_eq_of_cover 24 (lamC m c) (fun t _ => (lamT_eq m c t).trans (blk_whole_read (Memref.whole main_v13_0) true false (stage0_24 0) (sem0_24 0) (Memref.isWhole_whole _) (hstage0_24 0) t (lamC m c)).symm)
    fun i => ⟨t0_0, rfl, arr_out (Memref.whole main_v13_0) false (stage0_24 0) (sem0_24 0) (Memref.isWhole_whole _) (hstage0_24 0) t0_0 i (by rw [View.set_whole]; exact Finset.mem_univ _)⟩
theorem arr25 (c : Dev nD) : (dats m 0 c).arrAt 25 cfg0.N = betaC m c :=
  (dats m 0 c).arrAt_eq_of_cover 25 (betaC m c) (fun t _ => (betaT_eq m c t).trans (blk_whole_read (Memref.whole main_v13_2) true false (stage0_25 0) (sem0_25 0) (Memref.isWhole_whole _) (hstage0_25 0) t (betaC m c)).symm)
    fun i => ⟨t0_0, rfl, arr_out (Memref.whole main_v13_2) false (stage0_25 0) (sem0_25 0) (Memref.isWhole_whole _) (hstage0_25 0) t0_0 i (by rw [View.set_whole]; exact Finset.mem_univ _)⟩
theorem arr26 (c : Dev nD) : (dats m 0 c).arrAt 26 cfg0.N = gamC m c :=
  (dats m 0 c).arrAt_eq_of_cover 26 (gamC m c) (fun t _ => (gamT_eq m c t).trans (blk_whole_read (Memref.whole main_v13_3) true false (stage0_26 0) (sem0_26 0) (Memref.isWhole_whole _) (hstage0_26 0) t (gamC m c)).symm)
    fun i => ⟨t0_0, rfl, arr_out (Memref.whole main_v13_3) false (stage0_26 0) (sem0_26 0) (Memref.isWhole_whole _) (hstage0_26 0) t0_0 i (by rw [View.set_whole]; exact Finset.mem_univ _)⟩
theorem arr27 (c : Dev nD) : (dats m 0 c).arrAt 27 cfg0.N = etaC m c :=
  (dats m 0 c).arrAt_eq_of_cover 27 (etaC m c) (fun t _ => (etaT_eq m c t).trans (blk_whole_read (Memref.whole main_v13_4) true false (stage0_27 0) (sem0_27 0) (Memref.isWhole_whole _) (hstage0_27 0) t (etaC m c)).symm)
    fun i => ⟨t0_0, rfl, arr_out (Memref.whole main_v13_4) false (stage0_27 0) (sem0_27 0) (Memref.isWhole_whole _) (hstage0_27 0) t0_0 i (by rw [View.set_whole]; exact Finset.mem_univ _)⟩

/-- The column the host line after the region casts to a vector. -/
theorem out_beta {r : PUnit × MemSt nD τ sig (Elt F)} (h : RunPost m r) (c : Dev nD) :
    r.2.mem ((c.tc : Thread nD τ).loc main_v14) = shapeCast S512 (betaC m c) shapeCasts_S512x1_S512 := by
  refine ((h.1 c).2 main_v14 (Pipeline.mem_restRefs_of main_v14 (by decide) (by decide))).trans ?_
  have e : exitV m c (Proc.devRef .tc main_v13_2) = betaC m c :=
    (Pipeline.withArrays_arr spec0 launch0.win.arr_inj c _ _ 25).trans (arr25 m c)

  simp only [hostOps1, List.flatten_cons, List.flatten_nil, List.append_nil, List.cons_append, List.nil_append]
  rw [← e]
  rfl

/-- The result arrays hold the values the body computes from the arguments. -/
def ResultsAre (r : PUnit × MemSt nD τ sig (Elt F)) (c : Dev nD) : Prop :=
  r.2.mem ((c.tc : Thread nD τ).loc main_v13_0) = lamC m c
  ∧ r.2.mem ((c.tc : Thread nD τ).loc main_v13_1) = zC m c
  ∧ r.2.mem ((c.tc : Thread nD τ).loc main_v14) = shapeCast S512 (betaC m c) shapeCasts_S512x1_S512
  ∧ r.2.mem ((c.tc : Thread nD τ).loc main_v13_3) = gamC m c
  ∧ r.2.mem ((c.tc : Thread nD τ).loc main_v13_4) = etaC m c
  ∧ r.2.mem ((c.tc : Thread nD τ).loc main_v13_5) = evC m c
  ∧ r.2.mem ((c.tc : Thread nD τ).loc main_v13_6) = hC m c

theorem results_of {r : PUnit × MemSt nD τ sig (Elt F)} (h : RunPost m r) (c : Dev nD) : ResultsAre m r c :=
  ⟨((h.1 c).1 24).trans (arr24 m c),
   (rest_own m h c main_v13_1 (Pipeline.mem_restRefs_of main_v13_1 (by decide) (by decide)) (by decide) (by decide) (by decide)).trans ((GG_z m c).trans (zT_eq m c t0_0)),
   out_beta m h c,
   ((h.1 c).1 26).trans (arr26 m c),
   ((h.1 c).1 27).trans (arr27 m c),
   (rest_own m h c main_v13_5 (Pipeline.mem_restRefs_of main_v13_5 (by decide) (by decide)) (by decide) (by decide) (by decide)).trans ((GG_ev m c).trans (evT_eq m c t0_0)),
   (rest_own m h c main_v13_6 (Pipeline.mem_restRefs_of main_v13_6 (by decide) (by decide)) (by decide) (by decide) (by decide)).trans ((GG_h m c).trans (hT_eq m c t0_0))⟩

/-- The argument arrays are as launched. -/
def ArgsKept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
  ∧ r.2.mem ((c.tc : Thread nD τ).loc main_arg11) = m ((c.tc : Thread nD τ).loc main_arg11)
  ∧ r.2.mem ((c.tc : Thread nD τ).loc main_arg12) = m ((c.tc : Thread nD τ).loc main_arg12)
  ∧ r.2.mem ((c.tc : Thread nD τ).loc main_arg13) = m ((c.tc : Thread nD τ).loc main_arg13)
  ∧ r.2.mem ((c.tc : Thread nD τ).loc main_arg14) = m ((c.tc : Thread nD τ).loc main_arg14)
  ∧ r.2.mem ((c.tc : Thread nD τ).loc main_arg15) = m ((c.tc : Thread nD τ).loc main_arg15)
  ∧ r.2.mem ((c.tc : Thread nD τ).loc main_arg16) = m ((c.tc : Thread nD τ).loc main_arg16)
  ∧ r.2.mem ((c.tc : Thread nD τ).loc main_arg17) = m ((c.tc : Thread nD τ).loc main_arg17)
  ∧ r.2.mem ((c.tc : Thread nD τ).loc main_arg18) = m ((c.tc : Thread nD τ).loc main_arg18)
  ∧ r.2.mem ((c.tc : Thread nD τ).loc main_arg19) = m ((c.tc : Thread nD τ).loc main_arg19)
  ∧ r.2.mem ((c.tc : Thread nD τ).loc main_arg20) = m ((c.tc : Thread nD τ).loc main_arg20)
  ∧ r.2.mem ((c.tc : Thread nD τ).loc main_arg21) = m ((c.tc : Thread nD τ).loc main_arg21)
  ∧ r.2.mem ((c.tc : Thread nD τ).loc main_arg22) = m ((c.tc : Thread nD τ).loc main_arg22)
  ∧ r.2.mem ((c.tc : Thread nD τ).loc main_arg23) = m ((c.tc : Thread nD τ).loc main_arg23)

theorem arg_rest {r : PUnit × MemSt nD τ sig (Elt F)} (h : RunPost m r) (c : Dev nD) (b : Ref sig .tc) (hs : b ∈ Pipeline.restRefs sig spec0) (h14 : b ≠ main_v14)
    (hw : ∀ w, Pipeline.arrRef spec0 w ≠ b) (hR : b ∉ R0) (hV : V m c b = m ((c.tc : Thread nD τ).loc b)) :
    r.2.mem ((c.tc : Thread nD τ).loc b) = m ((c.tc : Thread nD τ).loc b) :=
  (rest_keep m h c b hs h14 hw hR).trans hV

theorem args_of {r : PUnit × MemSt nD τ sig (Elt F)} (h : RunPost m r) (c : Dev nD) : ArgsKept m r c :=
  ⟨arg_rest m h c main_arg0 (Pipeline.mem_restRefs_of main_arg0 (by decide) (by decide)) (by decide) (by decide) (by decide) (V_main_arg0 m c),
   arg_rest m h c main_arg1 (Pipeline.mem_restRefs_of main_arg1 (by decide) (by decide)) (by decide) (by decide) (by decide) (V_main_arg1 m c),
   (win_keep m h c 1 rfl).trans (V_main_arg2 m c),
   (win_keep m h c 3 rfl).trans (V_main_arg3 m c),
   (win_keep m h c 2 rfl).trans (V_main_arg4 m c),
   (win_keep m h c 4 rfl).trans (V_main_arg5 m c),
   (win_keep m h c 5 rfl).trans (V_main_arg6 m c),
   (win_keep m h c 6 rfl).trans (V_main_arg7 m c),
   (win_keep m h c 7 rfl).trans (V_main_arg8 m c),
   arg_rest m h c main_arg9 (Pipeline.mem_restRefs_of main_arg9 (by decide) (by decide)) (by decide) (by decide) (by decide) (V_main_arg9 m c),
   (win_keep m h c 9 rfl).trans (V_main_arg10 m c),
   arg_rest m h c main_arg11 (Pipeline.mem_restRefs_of main_arg11 (by decide) (by decide)) (by decide) (by decide) (by decide) (V_main_arg11 m c),
   (win_keep m h c 11 rfl).trans (V_main_arg12 m c),
   arg_rest m h c main_arg13 (Pipeline.mem_restRefs_of main_arg13 (by decide) (by decide)) (by decide) (by decide) (by decide) (V_main_arg13 m c),
   (win_keep m h c 13 rfl).trans (V_main_arg14 m c),
   arg_rest m h c main_arg15 (Pipeline.mem_restRefs_of main_arg15 (by decide) (by decide)) (by decide) (by decide) (by decide) (V_main_arg15 m c),
   (win_keep m h c 15 rfl).trans (V_main_arg16 m c),
   arg_rest m h c main_arg17 (Pipeline.mem_restRefs_of main_arg17 (by decide) (by decide)) (by decide) (by decide) (by decide) (V_main_arg17 m c),
   (win_keep m h c 17 rfl).trans (V_main_arg18 m c),
   (win_keep m h c 18 rfl).trans (V_main_arg19 m c),
   (win_keep m h c 20 rfl).trans (V_main_arg20 m c),
   arg_rest m h c main_arg21 (Pipeline.mem_restRefs_of main_arg21 (by decide) (by decide)) (by decide) (by decide) (by decide) (V_main_arg21 m c),
   (win_keep m h c 22 rfl).trans (V_main_arg22 m c),
   arg_rest m h c main_arg23 (Pipeline.mem_restRefs_of main_arg23 (by decide) (by decide)) (by decide) (by decide) (by decide) (V_main_arg23 m c)⟩

/-- The run from any contents, every semaphore at zero: the results, the arguments as launched, every semaphore at zero. -/
theorem run_all : θ_run defs (onTc (τ := τ) (main (F := F))) ⟨m, fun _ => 0, ρ⟩
    (fun r => (∀ c : Dev nD, ResultsAre m r c ∧ ArgsKept m r c) ∧ r.2.sem = fun _ => 0) :=
  (θ_run defs _ _).mono (fun _ h => ⟨fun c => ⟨results_of m h c, args_of m h c⟩, h.2⟩) (run_main m ρ)

end Cert.KernelIdeal.Hand

end
-- ==== Proof.EqA.lean ====
/-
  The kernel's results against the reference's, over the extended reals: the features `H`, the pooled features, the three heads,
  the normalised projection and `Z`.
-/
module

public import proofs.«01_k».proof.Proof.Gen.KernelIdeal.Skeleton
public import proofs.«01_k».proof.Proof.Gen.ReferenceIdeal.Run
public import Idealize.ShloMosaic.Lib.Pointwise
public import Idealize.ShloMosaic.Lib.KernelVsHost
public import Idealize.ShloMosaic.Lib.Tactic.CleanTypes

@[expose] public section

set_option maxRecDepth 16384

noncomputable section

namespace Cert.Alg

open Idealize.ShloMosaic Idealize.ShloMosaic.TcCoe
open Cert.KernelIdeal Cert.KernelIdeal.Gen
open Cert.ReferenceIdeal.Value

abbrev RVal : Type := Valuation Cert.ReferenceIdeal.τ Cert.ReferenceIdeal.sig (Elt Ideal)

/-- An argument of the reference, by its buffer. -/
abbrev rarg (V : RVal) (b : Ref Cert.ReferenceIdeal.sig .tc) := V (Proc.devRef .tc b)

/-- The features. -/
theorem hid_eq (V : RVal) :
    k0_pay2 (F := Ideal) (V (Proc.devRef .tc Cert.ReferenceIdeal.main_arg2)) (V (Proc.devRef .tc Cert.ReferenceIdeal.main_arg4))
      (V (Proc.devRef .tc Cert.ReferenceIdeal.main_arg6)) (V (Proc.devRef .tc Cert.ReferenceIdeal.main_arg7)) = res_main_v4 V := by
  unfold k0_pay2 res_main_v4
  simp only [matmul_zero_eq_dotGeneral]
  rfl

/-- The pooled features. -/
theorem pool_eq (V : RVal) (h : FVec Ideal S512x100 .f32) (hh : h = res_main_v4 V) :
    k0_pay12 (F := Ideal) h (V (Proc.devRef .tc Cert.ReferenceIdeal.main_arg3)) = res_main_v11 V := by
  unfold k0_pay12 res_main_v11
  rw [← hh]
  generalize (V (Proc.devRef .tc Cert.ReferenceIdeal.main_arg3)) = x
  clean_types
  simp only [matmul_zero_eq_dotGeneral]
  funext j
  pointwise

/-- A head over the pooled features: a product with one column, a bias, a rectification. -/
theorem head_eq (q : FVec Ideal S64x100 .f32) (w : FVec Ideal S100x1 .f32) (b : FVec Ideal S1 .f32) :
    maximumf (addf (matmul dot_S64x100_S100x1_S64x1_1_0_0_1_n_n none q w (constant S64x1 .f32 0x00000000#32))
        (broadcastTo S64x1 (shapeCast S1x1 (shapeCast S1x1 b shapeCasts_S1_S1x1) shapeCasts_S1x1_S1x1) broadcasts_S1x1_S64x1))
        (broadcast S64x1 (Scalar.ofBits .f32 0x00000000#32))
      = maximumf (addf (Host.dotGeneral Cert.ReferenceIdeal.dot_S64x100_S100x1_S64x1_1_0_0_1_n_n none q w)
        (broadcastInDim Cert.ReferenceIdeal.S64x1 ![0, 1] Cert.ReferenceIdeal.Gen.bcast_S1x1_S64x1_0_1 (broadcastInDim Cert.ReferenceIdeal.S1x1 ![1] Cert.ReferenceIdeal.Gen.bcast_S1_S1x1_1 b)))
        (broadcastInDim Cert.ReferenceIdeal.S64x1 ![] Cert.ReferenceIdeal.Gen.bcast_S_S64x1 (constant Cert.ReferenceIdeal.S_ .f32 0x00000000#32)) := by
  funext j
  pointwise

/-- The normalised projection of the features. -/
theorem proj_eq (V : RVal) (h : FVec Ideal S512x100 .f32) (hh : h = res_main_v4 V) :
    k0_pay6 (F := Ideal) (addf (matmul (φ₂ := .f32) dot_S512x100_S100x100_S512x100_1_0_0_1_n_n none (maximumf (addf (matmul (φ₂ := .f32) dot_S512x100_S100x100_S512x100_1_0_0_1_n_n none h
        (V (Proc.devRef .tc Cert.ReferenceIdeal.main_arg8)) (constant S512x100 .f32 0x00000000#32))
        (broadcastTo S512x100 (shapeCast S1x100 (shapeCast S1x100 (V (Proc.devRef .tc Cert.ReferenceIdeal.main_arg9) : FVec Ideal S100 .f32) shapeCasts_S100_S1x100) shapeCasts_S1x100_S1x100) broadcasts_S1x100_S512x100))
        (broadcast S512x100 (Scalar.ofBits .f32 0x00000000#32))) (V (Proc.devRef .tc Cert.ReferenceIdeal.main_arg10)) (constant S512x100 .f32 0x00000000#32))
        (broadcastTo S512x100 (shapeCast S1x100 (shapeCast S1x100 (V (Proc.devRef .tc Cert.ReferenceIdeal.main_arg11) : FVec Ideal S100 .f32) shapeCasts_S100_S1x100) shapeCasts_S1x100_S1x100) broadcasts_S1x100_S512x100))
        k0_pay5
      = res_main_v26 V := by
  unfold res_main_v26 k0_pay6 res_main_v21 k0_pay5
  rw [← hh]
  generalize (V (Proc.devRef .tc Cert.ReferenceIdeal.main_arg8)) = w1
  generalize (V (Proc.devRef .tc Cert.ReferenceIdeal.main_arg9)) = b1
  generalize (V (Proc.devRef .tc Cert.ReferenceIdeal.main_arg10)) = w2
  generalize (V (Proc.devRef .tc Cert.ReferenceIdeal.main_arg11)) = b2
  clean_types
  funext j
  pointwise

/-- The pairwise products, rectified. -/
theorem gram_eq (V : RVal) (p : FVec Ideal S512x100 .f32) (hp : k0_pay6 (F := Ideal) p k0_pay5 = res_main_v26 V) :
    k0_pay7 (F := Ideal) p k0_pay5 = maximumf (Host.dotGeneral (φ₁ := .f32) (φ₂ := .f32) Cert.ReferenceIdeal.dot_S512x100_S100x512_S512x512_1_0_0_1_n_n none (res_main_v26 V : FVec Ideal S512x100 .f32) (transpose Cert.ReferenceIdeal.S100x512 [1, 0] (res_main_v26 V : FVec Ideal S512x100 .f32) Cert.ReferenceIdeal.Gen.transposes_S512x100_S100x512_1_0)) (broadcastInDim Cert.ReferenceIdeal.S512x512 ![] Cert.ReferenceIdeal.Gen.bcast_S_S512x512 (constant Cert.ReferenceIdeal.S_ .f32 0x00000000#32)) := by
  unfold k0_pay7
  rw [hp]
  generalize res_main_v26 V = y
  clean_types
  funext j
  pointwise

end Cert.Alg

end
-- ==== Proof.EqB.lean ====
/-
  `Z_event`, the kernel's against the reference's, over the extended reals.
-/
module

public import proofs.«01_k».proof.Proof.EqA
public import proofs.«01_k».proof.Proof.RingI
public import Idealize.ShloMosaic.Lib.IndicatorCount
public import Idealize.ShloMosaic.Lib.WordCmp

@[expose] public section

set_option maxRecDepth 16384

noncomputable section

namespace Cert.Alg

open Idealize.ShloMosaic Idealize.ShloMosaic.TcCoe
open Cert.KernelIdeal Cert.KernelIdeal.Gen Cert.KernelIdeal.Hand
open Cert.ReferenceIdeal.Value

theorem select_ofBool {α : Type} (p : Prop) [Decidable p] (x y : α) :
    Scalar.select (BitVec.ofBool (decide p)) x y = if p then x else y := by
  by_cases h : p <;> simp [h, Scalar.select]

/-- How many entries of a row are not zero. -/
def cnt (x : Fin 512 → EReal) : ℕ := (Finset.univ.filter fun j => x j ≠ 0).card

theorem cnt_le (x : Fin 512 → EReal) : cnt x ≤ 512 := (Finset.card_le_univ _).trans (by simp)

/-- The kernel's integer count. -/
theorem fold_cnt (x : Fin 512 → EReal) :
    Finset.fold IntOp.addi (0#32) (fun p : Fin 1 × Fin 512 => if x p.2 ≠ 0 then 1#32 else 0#32) Finset.univ = BitVec.ofNat 32 (cnt x) := by
  have h : (fun p : Fin 1 × Fin 512 => if x p.2 ≠ 0 then 1#32 else 0#32)
      = fun p => (BitVec.ofBool (decide (x p.2 ≠ 0))).setWidth 32 := by
    funext p; by_cases hp : x p.2 = 0 <;> simp [hp]
  rw [h]
  unfold cnt
  rw [Idealize.ShloMosaic.IndicatorCount.fold_addi_setWidth_eq_card]
  congr 1
  refine Finset.card_bij (fun p _ => p.2) ?_ ?_ ?_
  · intro p hp; by_contra h0; simp_all
  · intro p _ q _ e; exact Prod.ext (Subsingleton.elim _ _) e
  · intro b hb; exact ⟨(0, b), by simp_all, rfl⟩

/-- The reference's float count. -/
theorem sum_cnt (x : Fin 512 → EReal) :
    (∑ j, (FloatOps.uitofp (F := Ideal) .f32 (BitVec.ofBool (decide (x j ≠ 0))) : EReal)) = ((cnt x : ℝ) : EReal) := by
  have h : ∀ j, (FloatOps.uitofp (F := Ideal) .f32 (BitVec.ofBool (decide (x j ≠ 0))) : EReal) = if x j ≠ 0 then 1 else 0 := by
    intro j
    show (((BitVec.ofBool (decide (x j ≠ 0))).toNat : ℝ) : EReal) = _
    by_cases hp : x j = 0 <;> simp [hp]
  rw [Finset.sum_congr rfl fun j _ => h j, Finset.sum_boole]
  rfl

/-- A position below the count, read from the float comparison. -/
theorem pos_lt (a n : ℕ) (ha : a < 2 ^ 31) :
    (FloatOps.uitofp (F := Ideal) .f32 (BitVec.ofBool (decide ((FloatOps.sitofp (F := Ideal) .f32 (BitVec.ofNat 32 a) : EReal) < ((n : ℝ) : EReal)))) : EReal)
      = if a < n then 1 else 0 := by
  have e : (FloatOps.sitofp (F := Ideal) .f32 (BitVec.ofNat 32 a) : EReal) = ((a : ℝ) : EReal) := by
    show (((BitVec.ofNat 32 a).toInt : ℝ) : EReal) = _
    rw [WordCmp.toInt_ofNat_of_lt ha]; simp
  rw [e]
  show (((BitVec.ofBool (decide (((a : ℝ) : EReal) < ((n : ℝ) : EReal)))).toNat : ℝ) : EReal) = _
  by_cases h : a < n <;> simp [h]

theorem slt_iff {a n : ℕ} (ha : a < 2 ^ 31) (hn : n < 2 ^ 31) :
    IntOp.cmpi .slt (BitVec.ofNat 32 a) (BitVec.ofNat 32 n) = BitVec.ofBool (decide (a < n)) := by
  show BitVec.ofBool (BitVec.slt _ _) = _
  rw [BitVec.slt, WordCmp.toInt_ofNat_of_lt ha, WordCmp.toInt_ofNat_of_lt hn]
  simp

/-- The reference's difference term, its indicator, and one half of its `Z_event`, at an index. -/
def dv (V : RVal) (a b : Fin 512) : EReal := (res_main_v91 V : FVec Ideal S512x512 .f32) (ValueIdx.ix2 a b)
def iv (V : RVal) (e : Fin 64) (a : Fin 512) : EReal := (res_main_v85 V : FVec Ideal S64x512 .f32) (ValueIdx.ix2 e a)
def uv (V : RVal) (e : Fin 64) (a b : Fin 512) : EReal := (res_main_v103 V : FVec Ideal S64x512x512 .f32) (ValueIdx.ix3 e a b)
/-- A row of the masks. -/
def row (x : FVec Ideal S64x512 .f32) (e : Fin 64) (j : Fin 512) : EReal := x (ValueIdx.ix2 e j)

/-- The reference's indicator of a position below the count. -/
theorem below_eq (V : RVal) (e : Fin 64) (a : Fin 512) :
    iv V e a = if a.val < cnt (row (V (Proc.devRef .tc Cert.ReferenceIdeal.main_arg3)) e) then 1 else 0 := by
  rw [← pos_lt _ _ (by omega), ← sum_cnt]
  unfold iv row res_main_v85 res_main_v66
  clean_types
  pointwise
  rfl

/-- The kernel's factor of a pair. -/
theorem fac_eq (V : RVal) (p q : FVec Ideal S512x100 .f32) (hp : k0_pay6 (F := Ideal) p q = res_main_v26 V) (a b : Fin 512) :
    (k0_pay9 (F := Ideal) p q (ValueIdx.ix2 a b) : EReal)
      = if a = b then 0 else Ideal.exp (-(dv V a b * dv V a b)) := by
  unfold k0_pay9 k0_pay7 dv res_main_v91
  rw [hp]
  generalize res_main_v26 V = y
  clean_types
  pointwise
  rw [show ((ValueIdx.ix2 a b 0 : Fin 512) : ℕ) = a.val from rfl, show ((ValueIdx.ix2 a b 1 : Fin 512) : ℕ) = b.val from rfl,
    WordCmp.cmpi_eq_ofNat (by omega) (by omega)]
  rw [select_ofBool]
  simp only [zero_sub, Fin.val_inj]

theorem d_symm (V : RVal) (a b : Fin 512) : dv V a b = dv V b a := by
  unfold dv res_main_v91
  generalize res_main_v26 V = y
  clean_types
  pointwise
  rw [Finset.sum_congr rfl fun x _ => mul_comm _ _]

/-- One half of the reference's `Z_event`. -/
theorem half_eq (V : RVal) (e : Fin 64) (a b : Fin 512) :
    uv V e a b = if b.val ≤ a.val then 0 else Ideal.exp (-(dv V a b * dv V a b)) * iv V e a * iv V e b := by
  unfold uv res_main_v103 dv iv
  generalize res_main_v85 V = me
  generalize res_main_v91 V = d
  clean_types
  pointwise
  rw [show ((ValueIdx.ix3 e a b 1 : Fin 512) : ℕ) = a.val from rfl, show ((ValueIdx.ix3 e a b 2 : Fin 512) : ℕ) = b.val from rfl]
  rw [show IntOp.addi (BitVec.ofNat 32 a.val) 0#32 = BitVec.ofNat 32 a.val from BitVec.add_zero _, WordCmp.cmpi_sge_ofNat (by omega) (by omega), select_ofBool]
  rfl

/-- The kernel's `Z_event` at one event. -/
theorem slab_eq (f : FVec Ideal S512x512 .f32) (x : Vec Ideal S1x512 .f32) (a b : Fin 512) :
   (k0_pay1 (F := Ideal) io0 io1 f x (ValueIdx.ix3 0 a b) : EReal)
     = if a.val < cnt (fun j => x (ValueIdx.ix2 0 j)) ∧ b.val < cnt (fun j => x (ValueIdx.ix2 0 j)) then f (ValueIdx.ix2 a b) else 0 := by
  have hc := cnt_le (fun j => x (ValueIdx.ix2 0 j))
  unfold k0_pay1
  clean_types
  pointwise
  have h := fold_cnt (fun j => x (ValueIdx.ix2 0 j))
  have h' : Finset.fold IntOp.addi (0#32) (fun x_1 : Fin 1 × Fin 512 => if x (ix2 0 x_1.2) ≠ 0 then 1#32 else 0#32) Finset.univ = _ := h
  rw [h', show ((ValueIdx.ix3 (n0 := 1) (n1 := 512) (n2 := 512) 0 a b 1 : Fin 512) : ℕ) = a.val from rfl, show ((ValueIdx.ix3 (n0 := 1) (n1 := 512) (n2 := 512) 0 a b 2 : Fin 512) : ℕ) = b.val from rfl,
    slt_iff (by omega) (by omega), slt_iff (by omega) (by omega), WordCmp.andi_ofBool]
  rw [← Bool.decide_and, select_ofBool]
  rfl

theorem sum_eq (V : RVal) (e : Fin 64) (a b : Fin 512) :
   ((addf (φ := .f32) (res_main_v103 V) (transpose Cert.ReferenceIdeal.S64x512x512 [0, 2, 1] (res_main_v103 V : FVec Ideal S64x512x512 .f32) Cert.ReferenceIdeal.Gen.transposes_S64x512x512_S64x512x512_0_2_1) : FVec Ideal S64x512x512 .f32) (ValueIdx.ix3 e a b) : EReal)
    = uv V e a b + uv V e b a := by
  unfold uv
  generalize res_main_v103 V = y
  clean_types
  pointwise
  rfl

/-- The two halves together. -/
theorem both_eq (V : RVal) (e : Fin 64) (a b : Fin 512) :
    uv V e a b + uv V e b a
      = if a.val < cnt (row (V (Proc.devRef .tc Cert.ReferenceIdeal.main_arg3)) e) ∧ b.val < cnt (row (V (Proc.devRef .tc Cert.ReferenceIdeal.main_arg3)) e)
        then (if a = b then 0 else Ideal.exp (-(dv V a b * dv V a b))) else 0 := by
  rw [half_eq, half_eq, below_eq, below_eq, d_symm V b a]
  generalize Ideal.exp (-(dv V a b * dv V a b)) = x
  generalize cnt _ = n
  rcases lt_trichotomy a b with h | h | h
  · have h1 : ¬ b.val ≤ a.val := by simpa using h
    have h2 : a.val ≤ b.val := le_of_lt h
    have h3 : a ≠ b := ne_of_lt h
    by_cases ha : a.val < n <;> by_cases hb : b.val < n <;> simp [ha, hb, h1, h2, h3]
  · subst h
    simp
  · have h1 : ¬ a.val ≤ b.val := by simpa using h
    have h2 : b.val ≤ a.val := le_of_lt h
    have h3 : a ≠ b := ne_of_gt h
    by_cases ha : a.val < n <;> by_cases hb : b.val < n <;> simp [ha, hb, h1, h2, h3]

end Cert.Alg

end
-- ==== Proof.EqC.lean ====
/-
  The threshold under which a weight is pruned: the kernel's, a minimum over the weights that enough weights do not exceed, against
  the reference's, an interpolation between two entries of the sorted weights.
-/
module

public import proofs.«01_k».proof.Proof.EqA
public import Idealize.ShloMosaic.Lib.SortFacts
public import Idealize.ShloMosaic.Lib.ReduceAll
public import Idealize.ShloMosaic.Lib.WordCmp

@[expose] public section

set_option maxRecDepth 16384

noncomputable section

namespace Cert.Alg

open Idealize.ShloMosaic Idealize.ShloMosaic.TcCoe
open Cert.KernelIdeal Cert.KernelIdeal.Gen
open Cert.ReferenceIdeal.Value

/-! ## Order statistics by counting -/

/-- How many weights do not exceed weight `i`. -/
def rank (w : Fin 100 → EReal) (i : Fin 100) : ℕ := (Finset.univ.filter fun j => w j ≤ w i).card

/-- The position of the `k`-th smallest weight. -/
def srt (w : Fin 100 → EReal) (k : Fin 100) : Fin 100 := sortedFrom (fun i j => decide (w i < w j)) k

theorem srt_mono (w : Fin 100 → EReal) (i j : Fin 100) (h : i ≤ j) : w (srt w i) ≤ w (srt w j) := by
  rcases eq_or_lt_of_le h with h | h
  · rw [h]
  · have h1 := sortedFrom_noInversion (fun i j => decide (w i < w j)) (fun i j => decide (w i < w j))
      (fun a b h => by simp only [decide_eq_true_eq, decide_eq_false_iff_not, not_lt] at h ⊢; exact h.le) (fun a b h => h)
      (fun a b c h1 h2 => by simp only [decide_eq_false_iff_not, not_lt] at h1 h2 ⊢; exact h2.trans h1) i j h
    simpa [srt] using h1

theorem srt_surj (w : Fin 100 → EReal) : Function.Surjective (srt w) := sortedFrom_surjective _

theorem srt_inj (w : Fin 100 → EReal) : Function.Injective (srt w) := sortedFrom_injective _

/-- At least `k + 1` weights do not exceed the `k`-th smallest. -/
theorem rank_srt (w : Fin 100 → EReal) (k : Fin 100) : k.val + 1 ≤ rank w (srt w k) := by
  have h : ((Finset.Iic k).image (srt w)).card = k.val + 1 := by
    rw [Finset.card_image_of_injective _ (srt_inj w), Fin.card_Iic]
  rw [← h]
  refine Finset.card_le_card fun x hx => ?_
  obtain ⟨i, hi, rfl⟩ := Finset.mem_image.mp hx
  exact Finset.mem_filter.mpr ⟨Finset.mem_univ _, srt_mono w i k (Finset.mem_Iic.mp hi)⟩

/-- A weight below the `k`-th smallest has at most `k` weights that do not exceed it. -/
theorem rank_lt (w : Fin 100 → EReal) (k i : Fin 100) (h : w i < w (srt w k)) : rank w i ≤ k.val := by
  have hc : ((Finset.Iio k).image (srt w)).card = k.val := by
    rw [Finset.card_image_of_injective _ (srt_inj w), Fin.card_Iio]
  rw [← hc]
  refine Finset.card_le_card fun x hx => ?_
  obtain ⟨l, rfl⟩ := srt_surj w x
  refine Finset.mem_image.mpr ⟨l, Finset.mem_Iio.mpr ?_, rfl⟩
  by_contra hl
  exact absurd ((srt_mono w k l (not_lt.mp hl)).trans (Finset.mem_filter.mp hx).2) (not_le.mpr h)

/-- The kernel's minimum, over the weights of enough rank, is the order statistic, if no weight exceeds the filling. -/
theorem min_rank (w : Fin 100 → EReal) (C : EReal) (hC : ∀ i, w i ≤ C) (k : Fin 100) :
    Finset.fold min ⊤ (fun p : Fin 100 × Fin 1 => if ((k.val + 1 : ℕ) : ℝ) ≤ ((rank w p.1 : ℕ) : ℝ) then w p.1 else C) Finset.univ = w (srt w k) := by
  refine le_antisymm ((Finset.fold_min_le _).mpr (Or.inr ⟨(srt w k, 0), Finset.mem_univ _, ?_⟩)) ((Finset.le_fold_min _).mpr ⟨le_top, fun p _ => ?_⟩)
  · rw [if_pos (Nat.cast_le.mpr (rank_srt w k))]
  · split
    · rename_i h
      by_contra hlt
      exact absurd (Nat.cast_le.mp h) (by have := rank_lt w k p.1 (not_le.mp hlt); omega)
    · exact hC _

/-! ## The kernel's threshold -/

/-- The weights, one by one. -/
def wts (x : Vec Ideal S100x1 .f32) (k : Fin 100) : EReal := x (ValueIdx.ix2 k 0)

theorem ofBits_99 : Ideal.ofBits .f32 0x42C60000#32 = ((99 : ℝ) : EReal) := by
  simp [Ideal.ofBits, Ideal.ieee, -EReal.coe_mul]; norm_num
theorem ofBits_100 : Ideal.ofBits .f32 0x42C80000#32 = ((100 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_inf : Ideal.ofBits .f32 0x7F800000#32 = ⊤ := by
  simp [Ideal.ofBits, Ideal.ieee, -EReal.coe_mul]
theorem ofBits_30 : Ideal.ofBits .f32 0x3E99999A#32 = ((10066330 / 33554432 : ℝ) : EReal) := by
  simp [Ideal.ofBits, Ideal.ieee, -EReal.coe_mul]; norm_num
/-- The kernel's filling. -/
abbrev big : EReal := Ideal.ofBits .f32 0x7149F2CA#32
theorem big_lt : big < ⊤ := by
  simp [big, Ideal.ofBits, Ideal.ieee, -EReal.coe_mul]

/-- A count is a sum of ones. -/
theorem sum_card {ι : Type} [DecidableEq ι] (t : Finset ι) (P : ι → Prop) [DecidablePred P] (f : ι → EReal)
    (hf : ∀ i, f i = ((if P i then (1 : ℝ) else 0 : ℝ) : EReal)) : ∑ i ∈ t, f i = (((t.filter P).card : ℝ) : EReal) := by
  induction t using Finset.induction_on with
  | empty => simp
  | insert a t ha ih =>
    rw [Finset.sum_insert ha, ih, hf a, Finset.filter_insert]
    split
    · rw [Finset.card_insert_of_notMem (by simp [ha]), ← EReal.coe_add]; push_cast; rw [add_comm]
    · rw [← EReal.coe_add, zero_add]

/-- The kernel's counts. -/
theorem count_eq (x : Vec Ideal S100x1 .f32) (k : Fin 100) :
    (k0_pay17 (F := Ideal) x (shapeCast S1x100 x shapeCasts_S100x1_S1x100) (ValueIdx.ix2 k 0) : EReal) = ((rank (wts x) k : ℝ) : EReal) := by
  unfold k0_pay17
  clean_types
  pointwise
  unfold rank
  refine sum_card _ _ _ fun j => ?_
  show (((BitVec.setWidth 32 (BitVec.ofBool (decide (wts x j ≤ wts x k)))).toInt : ℝ) : EReal) = _
  by_cases h : wts x j ≤ wts x k <;> simp [h]

/-- The floor of the kernel's position. -/
theorem floor_pos (s : Elt Ideal .f32) (p : ℝ) (n : Fin 100) (hs : (s : EReal) * ((99 : ℝ) : EReal) = p) (hn : ⌊p⌋ = (n.val : ℤ)) :
    (Scalar.floor (F := Ideal) (φ := .f32) ((s : EReal) * ((99 : ℝ) : EReal) : EReal) : EReal) = ((n.val : ℝ) : EReal) := by
  rw [hs]
  show Ideal.liftRound Int.floor (p : EReal) = _
  rw [Ideal.liftRound_coe, hn]
  rfl

/-- The lower neighbour of the kernel's position. -/
theorem slo_eq (x : Vec Ideal S100x1 .f32) (s : Elt Ideal .f32) (p : ℝ) (n : Fin 100) (hs : (s : EReal) * ((99 : ℝ) : EReal) = p) (hn : ⌊p⌋ = (n.val : ℤ))
    (hC : ∀ i, wts x i ≤ big) :
    (k0_pay21 (F := Ideal) x (shapeCast S1x100 x shapeCasts_S100x1_S1x100) s : EReal) = wts x (srt (wts x) n) := by
  rw [← min_rank (wts x) big hC n]
  have hc := count_eq x
  unfold k0_pay21 k0_pay19 k0_pay18
  generalize k0_pay17 (F := Ideal) x (shapeCast S1x100 x shapeCasts_S100x1_S1x100) = cn at hc ⊢
  clean_types
  pointwise
  rw [ofBits_99, floor_pos s p n hs hn, ofBits_inf]
  refine Finset.fold_congr fun q _ => ?_
  show (if ((n.val : ℝ) : EReal) + 1 ≤ cn (ValueIdx.ix2 q.1 0) then wts x q.1 else big) = _
  rw [hc, show ((n.val : ℝ) : EReal) + 1 = (((n.val + 1 : ℕ) : ℝ) : EReal) by push_cast; rfl]
  simp only [EReal.coe_le_coe_iff]

/-- The upper neighbour, which is the lower one at a whole position. -/
theorem shi_eq (x : Vec Ideal S100x1 .f32) (s : Elt Ideal .f32) (p : ℝ) (n n' : Fin 100) (hs : (s : EReal) * ((99 : ℝ) : EReal) = p) (hn : ⌊p⌋ = (n.val : ℤ))
    (hn' : n'.val = n.val + 1) (hC : ∀ i, wts x i ≤ big) :
    (k0_pay22 (F := Ideal) x (shapeCast S1x100 x shapeCasts_S100x1_S1x100) s : EReal) = if (n.val : ℝ) < p then wts x (srt (wts x) n') else wts x (srt (wts x) n) := by
  rw [← slo_eq x s p n hs hn hC, ← min_rank (wts x) big hC n']
  have hc := count_eq x
  unfold k0_pay22
  generalize k0_pay21 (F := Ideal) x (shapeCast S1x100 x shapeCasts_S100x1_S1x100) s = lo
  unfold k0_pay20 k0_pay19 k0_pay18
  generalize k0_pay17 (F := Ideal) x (shapeCast S1x100 x shapeCasts_S100x1_S1x100) = cn at hc ⊢
  clean_types
  pointwise
  rw [ofBits_99, floor_pos s p n hs hn, ofBits_inf, ofBits_2]
  refine if_congr ?_ (Finset.fold_congr fun q _ => ?_) rfl
  · rw [hs, ← EReal.coe_sub, ← EReal.coe_zero, EReal.coe_lt_coe_iff, sub_pos]
  · show (if ((n.val : ℝ) : EReal) + ((2 : ℝ) : EReal) ≤ cn (ValueIdx.ix2 q.1 0) then wts x q.1 else big) = _
    rw [hc, ← EReal.coe_add, show (n.val : ℝ) + 2 = ((n'.val + 1 : ℕ) : ℝ) by rw [hn']; push_cast; ring]
    simp only [EReal.coe_le_coe_iff]

/-! ## The reference's threshold -/

/-- A gather of one entry of a line: the start read signed, clamped into the line. -/
theorem gather_one {α : Type} (x : Cert.ReferenceIdeal.S100.Idx → α) (idx : IVec Cert.ReferenceIdeal.S1 32) (j : Cert.ReferenceIdeal.S_.Idx) (v : BitVec 32)
    (hv : ∀ i, idx i = v) :
    Host.gather Cert.ReferenceIdeal.gather_S100_S1_S__n_0_n_n_0_0_1 x idx j = x (ValueIdx.ix1 ⟨min v.toInt.toNat 99, by omega⟩) := by
  unfold Host.gather
  congr 1
  funext a
  have ha0 : a = 0 := Subsingleton.elim _ _
  subst ha0
  apply Fin.ext
  have hb : (0 : Fin 1) ∉ Cert.ReferenceIdeal.gather_S100_S1_S__n_0_n_n_0_0_1.operandBatchingDims := by exact List.not_mem_nil
  have hk : (0 : Fin 1) ∉ Cert.ReferenceIdeal.gather_S100_S1_S__n_0_n_n_0_0_1.sKept := by rw [GatherDims.mem_sKept]; simp [Cert.ReferenceIdeal.gather_S100_S1_S__n_0_n_n_0_0_1]
  have hm : (0 : Fin 1) ∈ Cert.ReferenceIdeal.gather_S100_S1_S__n_0_n_n_0_0_1.startIndexMap := by exact List.mem_singleton.mpr rfl
  simp only [GatherDims.operandIdx, GatherDims.batchCoord_eq_zero _ _ _ hb, GatherDims.offCoord_eq_zero _ _ _ hk, Nat.add_zero, GatherDims.start, dif_pos hm, hv]
  rfl

theorem foldl_ori_zero {ι : Type} (l : List ι) (f : ι → BitVec 1) (hf : ∀ i, f i = 0#1) : l.foldl (fun r n => IntOp.ori r (f n)) 0#1 = 0#1 := by
  induction l with
  | nil => rfl
  | cons a l ih => rw [List.foldl_cons, hf a]; exact ih

/-- Replacing a zero by zero changes nothing. -/
theorem zero_select (l : EReal) : (Scalar.select (Ideal.cmp .oeq l 0) (0 : EReal) l : EReal) = l := by
  by_cases h : l = 0 <;> simp [Scalar.select, Ideal.cmp, h]

/-- The sort compares two weights by their order. -/
theorem cmp_eq (l r : EReal) : Cert.ReferenceIdeal.comparator_f32_d0 (F := Ideal) l r = BitVec.ofBool (decide (l < r)) := by
  have h0 : (FloatOps.ofBits (F := Ideal) .f32 0x00000000#32 : EReal) = 0 := Ideal.ofBits_zero_f32
  have hn : ∀ (q t : EReal), (Scalar.select (Ideal.cmp .une t t) q t : EReal) = t := fun q t => by simp [Scalar.select, Ideal.cmp]
  unfold Cert.ReferenceIdeal.comparator_f32_d0
  simp only [h0]
  show BitVec.ofBool (decide ((Scalar.select (Ideal.cmp .une l l) _ (Scalar.select (Ideal.cmp .oeq l 0) (0 : EReal) l) : EReal) < Scalar.select (Ideal.cmp .une r r) _ (Scalar.select (Ideal.cmp .oeq r 0) (0 : EReal) r))) = _
  rw [zero_select, zero_select, hn, hn]

/-- The sort of a line, read by position. -/
theorem sort_eq (x : Cert.ReferenceIdeal.S100.Idx → EReal) (k : Fin 100) :
    Host.sort Cert.ReferenceIdeal.S100 0 (Cert.ReferenceIdeal.comparator_f32_d0 (F := Ideal)) x (ValueIdx.ix1 k)
      = x (ValueIdx.ix1 (srt (fun j => x (ValueIdx.ix1 j)) k)) := by
  have ha : ∀ l : Fin 100, Shape.Idx.along (s := Cert.ReferenceIdeal.S100) (ValueIdx.ix1 k) (0 : Fin 1) l = ValueIdx.ix1 l := by
    intro l; funext b; have hb0 : b = 0 := Subsingleton.elim _ _; subst hb0; exact Function.update_self _ _ _
  have hc : (fun i i' : Fin 100 => Cert.ReferenceIdeal.comparator_f32_d0 (F := Ideal) (x (Shape.Idx.along (s := Cert.ReferenceIdeal.S100) (ValueIdx.ix1 k) (0 : Fin 1) i)) (x (Shape.Idx.along (s := Cert.ReferenceIdeal.S100) (ValueIdx.ix1 k) (0 : Fin 1) i')) == 1#1)
      = fun i i' => decide (x (ValueIdx.ix1 i) < x (ValueIdx.ix1 i')) := by
    funext i i'
    rw [ha, ha, cmp_eq]
    by_cases h : x (ValueIdx.ix1 i) < x (ValueIdx.ix1 i') <;> simp [h]
  have h0 : (0 : ℕ) < Cert.ReferenceIdeal.S100.rank := Nat.zero_lt_one
  unfold Host.sort srt
  rw [dif_pos h0, ← hc]
  exact congrArg x (ha _)

/-- The check that no weight is undefined finds none. -/
theorem check_eq (x : FVec Ideal Cert.ReferenceIdeal.S100 .f32) :
    Host.reduce IntOp.ori (cmpf (F := Ideal) (φ := .f32) (s := Cert.ReferenceIdeal.S100) .une x x) (constantI Cert.ReferenceIdeal.S_ 1 0#1) Cert.ReferenceIdeal.Gen.reducesTo_S100_S_d0 Cert.ReferenceIdeal.Gen.h_S_ = fun _ => 0#1 := by
  funext i
  rw [Host.reduce_eq_foldl]
  exact foldl_ori_zero _ _ fun n => by
    show Ideal.cmp .une _ _ = 0#1
    simp [Ideal.cmp]

/-- A choice that is nowhere taken. -/
theorem select_none (x y : FVec Ideal Cert.ReferenceIdeal.S100 .f32) (b : IVec Cert.ReferenceIdeal.S_ 1) (hb : b = fun _ => 0#1) :
    select (broadcastInDim Cert.ReferenceIdeal.S100 ![0] Cert.ReferenceIdeal.Gen.bcast_S1_S100_0 (broadcastInDim Cert.ReferenceIdeal.S1 ![] Cert.ReferenceIdeal.Gen.bcast_S_S1 b)) y x = x := by
  subst hb; funext j; rfl

/-- The reference's sorted weights. -/
theorem sorted_eq (V : RVal) (k : Fin 100) :
    ((res_main_call7_v5 V : FVec Ideal S100 .f32) (ValueIdx.ix1 k) : EReal)
      = wts (V (Proc.devRef .tc Cert.ReferenceIdeal.main_arg19)) (srt (wts (V (Proc.devRef .tc Cert.ReferenceIdeal.main_arg19))) k) := by
  have hx : ∀ j : Fin 100, ((res_main_call7_v0 V : FVec Ideal S100 .f32) (ValueIdx.ix1 j) : EReal) = wts (V (Proc.devRef .tc Cert.ReferenceIdeal.main_arg19)) j := by
    intro j
    unfold res_main_call7_v0 wts
    clean_types
    pointwise
    rfl
  have hx' : (fun j : Fin 100 => ((res_main_call7_v0 V : FVec Ideal S100 .f32) (ValueIdx.ix1 j) : EReal)) = wts (V (Proc.devRef .tc Cert.ReferenceIdeal.main_arg19)) := funext hx
  rw [← hx, ← hx']
  unfold res_main_call7_v5
  generalize (res_main_call7_v0 V) = x
  clean_types
  rw [select_none x _ _ (check_eq x)]
  exact sort_eq x k

/-- The one place of a scalar. -/
def nil : Cert.ReferenceIdeal.S_.Idx := fun a => Fin.elim0 a

/-- The sparsity the reference and the kernel aim for. -/
def sp (V : RVal) : EReal :=
  Ideal.div (((V (Proc.devRef .tc Cert.ReferenceIdeal.main_arg0) : IVec Cert.ReferenceIdeal.S_ 32) nil).toInt : ℝ)
    (((V (Proc.devRef .tc Cert.ReferenceIdeal.main_arg1) : IVec Cert.ReferenceIdeal.S_ 32) nil).toInt : ℝ) * Ideal.ofBits .f32 0x3E99999A#32

/-- The reference's count less one, as the kernel's constant. -/
theorem hundred_less_one : (Ideal.ofBits .f32 0x42C80000#32 - Ideal.ofBits .f32 0x3F800000#32 : EReal) = ((99 : ℝ) : EReal) := by
  rw [ofBits_100, Ideal.ofBits_one_f32, ← EReal.coe_one, ← EReal.coe_sub]; norm_num

/-- The reference's position. -/
theorem pos_eq (V : RVal) (j : Cert.ReferenceIdeal.S_.Idx) : ((res_main_call7_v7 V : FVec Ideal Cert.ReferenceIdeal.S_ .f32) j : EReal) = sp V * ((99 : ℝ) : EReal) := by
  have hj : j = nil := funext fun a => Fin.elim0 a
  subst hj
  rw [← hundred_less_one]
  rfl

/-- A whole number from 0 to 99, clamped to that range and read as an integer, is itself. -/
theorem index_eq (n : Fin 100) :
    Ideal.fptosi 32 (min (max ((n.val : ℝ) : EReal) (Ideal.ofBits .f32 0x00000000#32)) (Ideal.ofBits .f32 0x42C80000#32 - Ideal.ofBits .f32 0x3F800000#32)) = BitVec.ofNat 32 n.val := by
  rw [hundred_less_one, Ideal.ofBits_zero_f32]
  have h1 : max ((n.val : ℝ) : EReal) 0 = ((n.val : ℝ) : EReal) := max_eq_left (by rw [← EReal.coe_zero, EReal.coe_le_coe_iff]; positivity)
  have h2 : min ((n.val : ℝ) : EReal) ((99 : ℝ) : EReal) = ((n.val : ℝ) : EReal) := min_eq_left (by
    rw [EReal.coe_le_coe_iff]; have := n.isLt; exact_mod_cast (by omega : n.val ≤ 99))
  rw [h1, h2, Ideal.fptosi, Ideal.toIntClamped_coe, if_pos (by positivity), Int.floor_natCast, min_eq_right (by have := n.isLt; norm_num; omega), max_eq_right (by norm_num)]
  exact BitVec.ofInt_natCast 32 n.val

/-- The entry of a line picked by such an index. -/
theorem pick_eq (x : FVec Ideal Cert.ReferenceIdeal.S100 .f32) (n : Fin 100) (t : FVec Ideal Cert.ReferenceIdeal.S_ .f32) (ht : ∀ j, (t j : EReal) = ((n.val : ℝ) : EReal)) (j : Cert.ReferenceIdeal.S_.Idx) :
    Host.gather Cert.ReferenceIdeal.gather_S100_S1_S__n_0_n_n_0_0_1 x (broadcastInDim Cert.ReferenceIdeal.S1 ![] Cert.ReferenceIdeal.Gen.bcast_S_S1
      (fptosi 32 (minimumf (maximumf t (constant Cert.ReferenceIdeal.S_ .f32 0x00000000#32)) (subf (constant Cert.ReferenceIdeal.S_ .f32 0x42C80000#32) (constant Cert.ReferenceIdeal.S_ .f32 0x3F800000#32))))) j
      = x (ValueIdx.ix1 n) := by
  rw [gather_one x _ j (BitVec.ofNat 32 n.val) fun i => ?_]
  · congr 2
    apply Fin.ext
    have h := n.isLt
    show min (BitVec.ofNat 32 n.val).toInt.toNat 99 = n.val
    rw [WordCmp.toInt_ofNat_of_lt (by omega)]
    omega
  · rw [← index_eq n, ← ht nil]
    exact congrArg (fun q => Ideal.fptosi 32 (min (max (t q : EReal) (Ideal.ofBits .f32 0x00000000#32)) (Ideal.ofBits .f32 0x42C80000#32 - Ideal.ofBits .f32 0x3F800000#32))) (funext fun a => Fin.elim0 a)

/-- The reference's threshold. -/
def refThr (V : RVal) : FVec Ideal Cert.ReferenceIdeal.S_ .f32 :=
  addf (mulf (Host.gather Cert.ReferenceIdeal.gather_S100_S1_S__n_0_n_n_0_0_1 (res_main_call7_v5 V) (broadcastInDim Cert.ReferenceIdeal.S1 ![] Cert.ReferenceIdeal.Gen.bcast_S_S1 (fptosi 32 (minimumf (maximumf (res_main_call7_v8 V) (constant Cert.ReferenceIdeal.S_ .f32 0x00000000#32)) (subf (constant Cert.ReferenceIdeal.S_ .f32 0x42C80000#32) (constant Cert.ReferenceIdeal.S_ .f32 0x3F800000#32)))))) (subf (constant Cert.ReferenceIdeal.S_ .f32 0x3F800000#32) (res_main_call7_v10 V)))
    (mulf (Host.gather Cert.ReferenceIdeal.gather_S100_S1_S__n_0_n_n_0_0_1 (res_main_call7_v5 V) (broadcastInDim Cert.ReferenceIdeal.S1 ![] Cert.ReferenceIdeal.Gen.bcast_S_S1 (fptosi 32 (minimumf (maximumf (Host.ceil (φ := .f32) (res_main_call7_v7 V)) (constant Cert.ReferenceIdeal.S_ .f32 0x00000000#32)) (subf (constant Cert.ReferenceIdeal.S_ .f32 0x42C80000#32) (constant Cert.ReferenceIdeal.S_ .f32 0x3F800000#32)))))) (res_main_call7_v10 V))

/-- Two ways of interpolating between two weights below the top: from the lower one, and by weights that sum to one. -/
theorem lerp_eq (a b : EReal) (f : ℝ) (ha : a < ⊤) (hab : a ≤ b) (hb : b < ⊤) (h0 : 0 < f) (h1 : f < 1) :
    a + (f : EReal) * (b - a) = a * ((1 - f : ℝ) : EReal) + b * (f : EReal) := by
  induction a with
  | bot => rw [EReal.bot_add, EReal.bot_mul_coe_of_pos (by linarith), EReal.bot_add]
  | top => exact absurd ha (lt_irrefl _)
  | coe a =>
    induction b with
    | bot => exact absurd (le_bot_iff.mp hab) (EReal.coe_ne_bot _)
    | top => exact absurd hb (lt_irrefl _)
    | coe b =>
      rw [← EReal.coe_sub, ← EReal.coe_mul, ← EReal.coe_add, ← EReal.coe_mul, ← EReal.coe_mul, ← EReal.coe_add]
      congr 1
      ring

/-- The kernel's threshold is the reference's. -/
theorem thr_eq (V : RVal) (s : Elt Ideal .f32) (p : ℝ) (hsp : (s : EReal) = sp V) (hs : sp V * ((99 : ℝ) : EReal) = p) (hp0 : 0 ≤ p) (hp1 : p < 99)
    (hC : ∀ i, wts (V (Proc.devRef .tc Cert.ReferenceIdeal.main_arg19)) i ≤ big) (j : Cert.ReferenceIdeal.S_.Idx) :
    ((k0_pay21 (F := Ideal) (V (Proc.devRef .tc Cert.ReferenceIdeal.main_arg19)) (shapeCast S1x100 (V (Proc.devRef .tc Cert.ReferenceIdeal.main_arg19)) shapeCasts_S100x1_S1x100) s : EReal)
      + (k0_pay20 (F := Ideal) s : EReal) * ((k0_pay22 (F := Ideal) (V (Proc.devRef .tc Cert.ReferenceIdeal.main_arg19)) (shapeCast S1x100 (V (Proc.devRef .tc Cert.ReferenceIdeal.main_arg19)) shapeCasts_S100x1_S1x100) s : EReal)
        - (k0_pay21 (F := Ideal) (V (Proc.devRef .tc Cert.ReferenceIdeal.main_arg19)) (shapeCast S1x100 (V (Proc.devRef .tc Cert.ReferenceIdeal.main_arg19)) shapeCasts_S100x1_S1x100) s : EReal)) : EReal)
      = (refThr V j : EReal) := by
  obtain ⟨m, hm⟩ := Int.eq_ofNat_of_zero_le (Int.floor_nonneg.mpr hp0)
  have hm99 : m < 99 := by
    have : ⌊p⌋ < 99 := Int.floor_lt.mpr (by exact_mod_cast hp1)
    omega
  have hle : (m : ℝ) ≤ p := by have := Int.floor_le p; rw [hm] at this; exact_mod_cast this
  have hlt : p < m + 1 := by have := Int.lt_floor_add_one p; rw [hm] at this; exact_mod_cast this
  have hn : ⌊p⌋ = (((⟨m, by omega⟩ : Fin 100).val : ℕ) : ℤ) := hm
  have hs' : (s : EReal) * ((99 : ℝ) : EReal) = p := hsp ▸ hs
  have hfr : (k0_pay20 (F := Ideal) s : EReal) = ((p - m : ℝ) : EReal) := by
    show (s : EReal) * Ideal.ofBits .f32 0x42C60000#32 - (Scalar.floor (F := Ideal) (φ := .f32) ((s : EReal) * Ideal.ofBits .f32 0x42C60000#32 : EReal) : EReal) = _
    rw [ofBits_99, floor_pos s p ⟨m, by omega⟩ hs' hn, hs', ← EReal.coe_sub]
  have h8 : ∀ j, ((res_main_call7_v8 V : FVec Ideal Cert.ReferenceIdeal.S_ .f32) j : EReal) = ((m : ℝ) : EReal) := by
    intro j
    show Ideal.liftRound Int.floor ((res_main_call7_v7 V : FVec Ideal Cert.ReferenceIdeal.S_ .f32) j : EReal) = _
    rw [pos_eq, hs, Ideal.liftRound_coe, hm]
    rfl
  have h10 : ((res_main_call7_v10 V : FVec Ideal Cert.ReferenceIdeal.S_ .f32) j : EReal) = ((p - m : ℝ) : EReal) := by
    rw [EReal.coe_sub]
    exact congrArg₂ (fun a b : EReal => a - b) ((pos_eq V j).trans hs) (h8 j)
  set w := wts (V (Proc.devRef .tc Cert.ReferenceIdeal.main_arg19)) with hw
  rw [slo_eq _ s p ⟨m, by omega⟩ hs' hn hC, shi_eq _ s p ⟨m, by omega⟩ ⟨m + 1, by omega⟩ hs' hn rfl hC, hfr]
  have hlo := pick_eq (res_main_call7_v5 V) ⟨m, by omega⟩ (res_main_call7_v8 V) h8 j
  have hone : (1 : EReal) - ((p - m : ℝ) : EReal) = ((1 - (p - m) : ℝ) : EReal) := by rw [← EReal.coe_one, ← EReal.coe_sub]
  have hceil : ∀ n : Fin 100, ⌈p⌉ = (n.val : ℤ) → (refThr V j : EReal) = w (srt w ⟨m, by omega⟩) * ((1 - (p - m) : ℝ) : EReal) + w (srt w n) * ((p - m : ℝ) : EReal) := by
    intro n hcn
    have hhi := pick_eq (res_main_call7_v5 V) n (Host.ceil (φ := .f32) (res_main_call7_v7 V)) (fun j => by
      show Ideal.liftRound Int.ceil ((res_main_call7_v7 V : FVec Ideal Cert.ReferenceIdeal.S_ .f32) j : EReal) = _
      rw [pos_eq, hs, Ideal.liftRound_coe, hcn]
      rfl) j
    rw [← hone, ← h10, ← Ideal.ofBits_one_f32, hw, ← sorted_eq, ← sorted_eq]
    refine Eq.trans (b := ((_ : EReal) * _ + (_ : EReal) * _ : EReal)) rfl (congr_arg₂ _ (congr_arg₂ _ hlo rfl) (congr_arg₂ _ hhi rfl))
  split
  · rename_i h
    have h' : (m : ℝ) < p := h
    rw [hceil ⟨m + 1, by omega⟩ (Int.ceil_eq_iff.mpr ⟨by push_cast; linarith, by push_cast; linarith⟩)]
    exact lerp_eq _ _ _ ((hC _).trans_lt big_lt) (srt_mono w _ _ (Fin.mk_le_mk.mpr (by omega))) ((hC _).trans_lt big_lt) (by linarith) (by linarith)
  · rename_i h
    have h' : p = m := le_antisymm (not_lt.mp h) hle
    have hc : ⌈p⌉ = (m : ℤ) := by simp [h']
    have hz : (p - m : ℝ) = 0 := by linarith
    rw [hceil ⟨m, by omega⟩ hc, hz]
    simp [← hw]

end Cert.Alg

end
-- ==== Proof.EqD.lean ====
/-
  The pruned, normalized column of the hidden states: the kernel's against the reference's.
-/
module

public import proofs.«01_k».proof.Proof.EqC

@[expose] public section

set_option maxRecDepth 16384

noncomputable section

namespace Cert.Alg

open Idealize.ShloMosaic Idealize.ShloMosaic.TcCoe
open Cert.KernelIdeal Cert.KernelIdeal.Gen
open Cert.ReferenceIdeal.Value

/-- One row against the weights that are not pruned. -/
def colOf (h : S512x100.Idx → EReal) (w v : Fin 100 → EReal) (t : EReal) (j : Fin 512) : EReal :=
  ∑ k : Fin 100, h (ValueIdx.ix2 j k) * ((if w k < t then 0 else 1) * v k)

/-- One hidden state against the pruned weights. -/
def col (V : RVal) : Fin 512 → EReal :=
  colOf (res_main_v4 V) (wts (V (Proc.devRef .tc Cert.ReferenceIdeal.main_arg19))) (wts (V (Proc.devRef .tc Cert.ReferenceIdeal.main_arg18))) (refThr V nil)

/-- The reference's column, of the hidden states, the two weights and the threshold. -/
def refCol (h : FVec Ideal Cert.ReferenceIdeal.S512x100 .f32) (w v : FVec Ideal Cert.ReferenceIdeal.S100x1 .f32) (t : FVec Ideal Cert.ReferenceIdeal.S_ .f32) : FVec Ideal Cert.ReferenceIdeal.S512 .f32 :=
  shapeCast Cert.ReferenceIdeal.S512 (Host.dotGeneral (φ₁ := .f32) (φ₂ := .f32) Cert.ReferenceIdeal.dot_S512x100_S100x1_S512x1_1_0_0_1_n_n none h
    (mulf (select (cmpf (φ := .f32) .olt w (broadcastInDim Cert.ReferenceIdeal.S100x1 ![] Cert.ReferenceIdeal.Gen.bcast_S_S100x1 t))
      (broadcastInDim Cert.ReferenceIdeal.S100x1 ![] Cert.ReferenceIdeal.Gen.bcast_S_S100x1 (constant (F := Ideal) Cert.ReferenceIdeal.S_ .f32 0x00000000#32))
      (broadcastInDim Cert.ReferenceIdeal.S100x1 ![] Cert.ReferenceIdeal.Gen.bcast_S_S100x1 (constant (F := Ideal) Cert.ReferenceIdeal.S_ .f32 0x3F800000#32))) v)) Cert.ReferenceIdeal.Gen.shapeCasts_S512x1_S512

/-- The reference's column, entry by entry. -/
theorem refCol_eq (h : FVec Ideal Cert.ReferenceIdeal.S512x100 .f32) (w v : FVec Ideal Cert.ReferenceIdeal.S100x1 .f32) (t : FVec Ideal Cert.ReferenceIdeal.S_ .f32) (j : Fin 512) :
    (refCol h w v t (ValueIdx.ix1 j) : EReal) = colOf h (wts w) (wts v) (t nil) j := by
  unfold refCol colOf wts
  pointwise
  have hn : ∀ i, t i = t nil := fun i => congrArg t (funext fun a => Fin.elim0 a)
  simp only [hn]
  rfl

/-- The reference's column is the column. -/
theorem v53_eq (V : RVal) (j : Fin 512) : ((res_main_v53 V : FVec Ideal Cert.ReferenceIdeal.S512 .f32) (ValueIdx.ix1 j) : EReal) = col V j :=
  refCol_eq (res_main_v4 V) (V (Proc.devRef .tc Cert.ReferenceIdeal.main_arg19)) (V (Proc.devRef .tc Cert.ReferenceIdeal.main_arg18)) (refThr V) j

/-- A column scaled to unit length. -/
def unit (c : Fin 512 → EReal) (j : Fin 512) : EReal := Ideal.div (c j) (max (Ideal.sqrt (∑ i, c i * c i)) (Ideal.ofBits .f32 0x2B8CBCCC#32))

/-- The reference's scaled column. -/
def refBeta (V : RVal) : FVec Ideal Cert.ReferenceIdeal.S512 .f32 :=
  Host.divf (res_main_v53 V) (broadcastInDim Cert.ReferenceIdeal.S512 ![0] Cert.ReferenceIdeal.Gen.bcast_S1_S512_0 (maximumf (Host.sqrt (broadcastInDim Cert.ReferenceIdeal.S1 ![] Cert.ReferenceIdeal.Gen.bcast_S_S1 (Host.reduceAdd (mulf (res_main_v53 V) (res_main_v53 V)) (constant Cert.ReferenceIdeal.S_ .f32 0x00000000#32) Cert.ReferenceIdeal.Gen.reducesTo_S512_S_d0 Cert.ReferenceIdeal.Gen.h_S_))) (broadcastInDim Cert.ReferenceIdeal.S1 ![] Cert.ReferenceIdeal.Gen.bcast_S_S1 (constant Cert.ReferenceIdeal.S_ .f32 0x2B8CBCCC#32))))

/-- The reference's scaled column is the column, scaled. -/
theorem refBeta_eq (V : RVal) (j : Fin 512) : (refBeta V (ValueIdx.ix1 j) : EReal) = unit (col V) j := by
  have hv := v53_eq V
  have hc : col V = fun j => ((res_main_v53 V : FVec Ideal Cert.ReferenceIdeal.S512 .f32) (ValueIdx.ix1 j) : EReal) := funext fun j => (hv j).symm
  rw [hc]
  unfold refBeta unit
  generalize (res_main_v53 V) = x
  clean_types
  pointwise
  rfl

/-- The kernel's scaled column, if its threshold is the reference's. -/
theorem beta_eq (h : FVec Ideal S512x100 .f32) (V : RVal) (hh : h = res_main_v4 V) (a b c : Ideal .f32) (ht : ((b : EReal) + (a : EReal) * ((c : EReal) - (b : EReal)) : EReal) = (refThr V nil : EReal)) (j : Fin 512) :
    (k0_pay23 (F := Ideal) h (V (Proc.devRef .tc Cert.ReferenceIdeal.main_arg19)) a b c (V (Proc.devRef .tc Cert.ReferenceIdeal.main_arg18)) (ValueIdx.ix2 j 0) : EReal) = unit (col V) j := by
  subst hh
  unfold unit col colOf wts
  rw [← ht]
  unfold k0_pay23
  generalize (res_main_v4 V : FVec Ideal S512x100 .f32) = h
  generalize V (Proc.devRef .tc Cert.ReferenceIdeal.main_arg19) = w
  generalize V (Proc.devRef .tc Cert.ReferenceIdeal.main_arg18) = v
  clean_types
  pointwise
  simp only [Finset.univ_unique, Finset.sum_const, Finset.card_singleton, one_smul, Finset.sum_singleton]
  rfl

end Cert.Alg

end
-- ==== Proof.EqE.lean ====
/-
  The reference's rate, of its parts, and the kernel's: the same parts put together alike.
-/
module

public import proofs.«01_k».proof.Proof.EqD

@[expose] public section

set_option maxRecDepth 16384

noncomputable section

namespace Cert.Alg

open Idealize.ShloMosaic Idealize.ShloMosaic.TcCoe
open Cert.KernelIdeal Cert.KernelIdeal.Gen
open Cert.ReferenceIdeal.Value

/-- The reference's logistic. -/
def refSigm (x : FVec Ideal Cert.ReferenceIdeal.S64x1 .f32) : FVec Ideal Cert.ReferenceIdeal.S64x1 .f32 :=
  Host.divf (broadcastInDim Cert.ReferenceIdeal.S64x1 ![] Cert.ReferenceIdeal.Gen.bcast_S_S64x1 (constant (F := Ideal) Cert.ReferenceIdeal.S_ .f32 0x3F800000#32))
    (addf (broadcastInDim Cert.ReferenceIdeal.S64x1 ![] Cert.ReferenceIdeal.Gen.bcast_S_S64x1 (constant (F := Ideal) Cert.ReferenceIdeal.S_ .f32 0x3F800000#32)) (Host.exp (Host.negf x)))

/-- The kernel's logistic is the reference's. -/
theorem sigm_eq (x : FVec Ideal S64x1 .f32) : logistic (F := Ideal) x = refSigm x := by
  funext i
  unfold refSigm
  pointwise
  rfl

/-- One bit as a number. -/
theorem bit_eq (x : EReal) : (if x ≠ 0 then (1 : EReal) else 0) = FloatOps.uitofp (F := Ideal) .f32 (BitVec.ofBool (decide (x ≠ 0))) := by
  show _ = (((BitVec.ofBool (decide (x ≠ 0))).toNat : ℝ) : EReal)
  by_cases h : x = 0 <;> simp [h]

/-- Which words an event holds: the kernel's indicator. -/
theorem ind_eq (V : RVal) : k0_pay11 (F := Ideal) (V (Proc.devRef .tc Cert.ReferenceIdeal.main_arg3)) = (res_main_v66 V : FVec Ideal S64x512 .f32) := by
  unfold k0_pay11 res_main_v66
  generalize V (Proc.devRef .tc Cert.ReferenceIdeal.main_arg3) = x
  clean_types
  funext i
  pointwise
  exact bit_eq _

/-- The reference's pre-activation, of its parts. -/
def refPre (K E G : FVec Ideal Cert.ReferenceIdeal.S64x1 .f32) (X c : FVec Ideal Cert.ReferenceIdeal.S64x512 .f32) (P : FVec Ideal Cert.ReferenceIdeal.S512x100 .f32) (B : FVec Ideal Cert.ReferenceIdeal.S512 .f32) :
    FVec Ideal Cert.ReferenceIdeal.S64x1 .f32 :=
  addf (addf K (Host.dotGeneral (φ₁ := .f32) (φ₂ := .f32) Cert.ReferenceIdeal.dot_S64x512_S512x1_S64x1_1_0_0_1_n_n none X (broadcastInDim Cert.ReferenceIdeal.S512x1 ![0] Cert.ReferenceIdeal.Gen.bcast_S512_S512x1_0 B)))
    (mulf E (Host.exp (mulf (Host.negf G) (broadcastInDim Cert.ReferenceIdeal.S64x1 ![0] Cert.ReferenceIdeal.Gen.bcast_S64_S64x1_0 (maximumf (mulf (broadcastInDim Cert.ReferenceIdeal.S64 ![] Cert.ReferenceIdeal.Gen.bcast_S_S64 (constant (F := Ideal) Cert.ReferenceIdeal.S_ .f32 0x3F000000#32))
      (subf (Host.reduceAdd (mulf (Host.dotGeneral (φ₁ := .f32) (φ₂ := .f32) Cert.ReferenceIdeal.dot_S64x512_S512x100_S64x100_1_0_0_1_n_n none c P) (Host.dotGeneral (φ₁ := .f32) (φ₂ := .f32) Cert.ReferenceIdeal.dot_S64x512_S512x100_S64x100_1_0_0_1_n_n none c P)) (constant (F := Ideal) Cert.ReferenceIdeal.S_ .f32 0x00000000#32) Cert.ReferenceIdeal.Gen.reducesTo_S64x100_S64_d1 Cert.ReferenceIdeal.Gen.h_S_)
        (Host.dotGeneral (φ₁ := .f32) (φ₂ := .f32) Cert.ReferenceIdeal.dot_S64x512_S512_S64_1_0_0_n_n_n none c (Host.reduceAdd (mulf P P) (constant (F := Ideal) Cert.ReferenceIdeal.S_ .f32 0x00000000#32) Cert.ReferenceIdeal.Gen.reducesTo_S512x100_S512_d1 Cert.ReferenceIdeal.Gen.h_S_))))
      (broadcastInDim Cert.ReferenceIdeal.S64 ![] Cert.ReferenceIdeal.Gen.bcast_S_S64 (constant (F := Ideal) Cert.ReferenceIdeal.S_ .f32 0x00000000#32)))))))

/-- The kernel's pre-activation, of the same parts. -/
theorem pre_eq (h P : FVec Ideal S512x100 .f32) (X c : FVec Ideal S64x512 .f32) (K E G : FVec Ideal S64x1 .f32) (w v : FVec Ideal S100x1 .f32) (a b t : Ideal .f32) (B : FVec Ideal Cert.ReferenceIdeal.S512 .f32)
    (hB : ∀ j : Fin 512, (k0_pay23 (F := Ideal) h w a b t v (ValueIdx.ix2 j 0) : EReal) = (B (ValueIdx.ix1 j) : EReal)) :
    k0_pay24 (F := Ideal) h P X c K E G w a b t v = refPre K E G X c P B := by
  unfold k0_pay24 refPre
  generalize k0_pay23 (F := Ideal) h w a b t v = kb at hB ⊢
  funext i
  have hk : ∀ k : Fin 512, (kb (ValueIdx.ix2 k (i 1)) : EReal) = (B (ValueIdx.ix1 k) : EReal) := fun k =>
    (congrArg (fun z : Fin 1 => (kb (ValueIdx.ix2 k z) : EReal)) (Subsingleton.elim (α := Fin 1) (i 1) 0)).trans (hB k)
  pointwise
  rw [zero_sub]
  exact congrArg (fun u : EReal => (K i : EReal) + u + _) (Finset.sum_congr rfl fun k _ => congrArg (fun u : EReal => _ * u) (hk k))

/-- The reference's second part of the rate, of the covariates and its weights. -/
def refMlp (z : FVec Ideal Cert.ReferenceIdeal.S64x512 .f32) (w1 : FVec Ideal Cert.ReferenceIdeal.S512x128 .f32) (b1 : FVec Ideal Cert.ReferenceIdeal.S128 .f32) (w2 : FVec Ideal Cert.ReferenceIdeal.S128x1 .f32) (b2 : FVec Ideal Cert.ReferenceIdeal.S1 .f32) :
    FVec Ideal Cert.ReferenceIdeal.S64x1 .f32 :=
  addf (Host.dotGeneral (φ₁ := .f32) (φ₂ := .f32) Cert.ReferenceIdeal.dot_S64x128_S128x1_S64x1_1_0_0_1_n_n none
    (maximumf (addf (Host.dotGeneral (φ₁ := .f32) (φ₂ := .f32) Cert.ReferenceIdeal.dot_S64x512_S512x128_S64x128_1_0_0_1_n_n none z w1)
      (broadcastInDim Cert.ReferenceIdeal.S64x128 ![0, 1] Cert.ReferenceIdeal.Gen.bcast_S1x128_S64x128_0_1 (broadcastInDim Cert.ReferenceIdeal.S1x128 ![1] Cert.ReferenceIdeal.Gen.bcast_S128_S1x128_1 b1)))
      (broadcastInDim Cert.ReferenceIdeal.S64x128 ![] Cert.ReferenceIdeal.Gen.bcast_S_S64x128 (constant (F := Ideal) Cert.ReferenceIdeal.S_ .f32 0x00000000#32))) w2)
    (broadcastInDim Cert.ReferenceIdeal.S64x1 ![0, 1] Cert.ReferenceIdeal.Gen.bcast_S1x1_S64x1_0_1 (broadcastInDim Cert.ReferenceIdeal.S1x1 ![1] Cert.ReferenceIdeal.Gen.bcast_S1_S1x1_1 b2))

/-- The kernel's rate, of its pre-activation. -/
theorem rate_eq (p : FVec Ideal S64x1 .f32) (z : FVec Ideal S64x512 .f32) (w1 : FVec Ideal S512x128 .f32) (b1 : FVec Ideal S128 .f32) (w2 : FVec Ideal S128x1 .f32) (b2 : FVec Ideal S1 .f32) :
    k0_pay25 (F := Ideal) p z w1 (shapeCast S1x128 b1 shapeCasts_S128_S1x128) w2 (shapeCast S1x1 b2 shapeCasts_S1_S1x1) = refSigm (addf (refSigm p) (refMlp z w1 b1 w2 b2)) := by
  rw [← sigm_eq, ← sigm_eq]
  unfold k0_pay25 refMlp
  funext i
  pointwise

end Cert.Alg

end
-- ==== Proof.EqF.lean ====
/-
  The seven results: each of the kernel's, at the reference's arguments, is the reference's.
-/
module

public import proofs.«01_k».proof.Proof.EqB
public import proofs.«01_k».proof.Proof.EqE
public import proofs.«01_k».proof.Proof.BodyI

@[expose] public section

set_option maxRecDepth 16384

noncomputable section

namespace Cert.Alg

open Idealize.ShloMosaic Idealize.ShloMosaic.TcCoe
open Cert.KernelIdeal Cert.KernelIdeal.Gen Cert.KernelIdeal.Hand
open Cert.ReferenceIdeal.Value

/-- The reference's head, of the pooled features. -/
def refHead (V : RVal) (w : FVec Ideal Cert.ReferenceIdeal.S100x1 .f32) (b : FVec Ideal Cert.ReferenceIdeal.S1 .f32) : FVec Ideal Cert.ReferenceIdeal.S64x1 .f32 :=
  maximumf (addf (Host.dotGeneral (φ₁ := .f32) (φ₂ := .f32) Cert.ReferenceIdeal.dot_S64x100_S100x1_S64x1_1_0_0_1_n_n none (res_main_v11 V : FVec Ideal S64x100 .f32) w)
    (broadcastInDim Cert.ReferenceIdeal.S64x1 ![0, 1] Cert.ReferenceIdeal.Gen.bcast_S1x1_S64x1_0_1 (broadcastInDim Cert.ReferenceIdeal.S1x1 ![1] Cert.ReferenceIdeal.Gen.bcast_S1_S1x1_1 b)))
    (broadcastInDim Cert.ReferenceIdeal.S64x1 ![] Cert.ReferenceIdeal.Gen.bcast_S_S64x1 (constant Cert.ReferenceIdeal.S_ .f32 0x00000000#32))

/-- The kernel's head, before it is cut into its own steps. -/
theorem kHead_eq (V : RVal) (h : FVec Ideal S512x100 .f32) (hh : h = res_main_v4 V) (w : FVec Ideal S100x1 .f32) (b : FVec Ideal S1 .f32) :
    k0_pay13 (F := Ideal) h (V (Proc.devRef .tc Cert.ReferenceIdeal.main_arg3)) w (shapeCast S1x1 b shapeCasts_S1_S1x1) = refHead V w b := by
  unfold k0_pay13 refHead
  rw [pool_eq V h hh]
  exact head_eq _ w b

/-- The result `H`. -/
theorem h_res (V : RVal) :
    hV (F := Ideal) (V (Proc.devRef .tc Cert.ReferenceIdeal.main_arg2)) (V (Proc.devRef .tc Cert.ReferenceIdeal.main_arg4))
      (V (Proc.devRef .tc Cert.ReferenceIdeal.main_arg6)) (V (Proc.devRef .tc Cert.ReferenceIdeal.main_arg7)) = res_main_v4 V := by
  rw [← hid_eq V]
  unfold hV k0_pay3
  exact shapeCast_self _ _

/-- The result `eta`. -/
theorem eta_res (V : RVal) (b : FVec Ideal S1 .f32) (w : FVec Ideal S100x1 .f32) :
    etaV (F := Ideal) (V (Proc.devRef .tc Cert.ReferenceIdeal.main_arg2)) (V (Proc.devRef .tc Cert.ReferenceIdeal.main_arg4)) (V (Proc.devRef .tc Cert.ReferenceIdeal.main_arg3))
      (V (Proc.devRef .tc Cert.ReferenceIdeal.main_arg6)) (V (Proc.devRef .tc Cert.ReferenceIdeal.main_arg7)) w (shapeCast S1x1 b shapeCasts_S1_S1x1) = refHead V w b :=
  kHead_eq V _ (hid_eq V) w b

/-- The result `gamma`. -/
theorem gam_res (V : RVal) (b : FVec Ideal S1 .f32) (w : FVec Ideal S100x1 .f32) :
    gamV (F := Ideal) (V (Proc.devRef .tc Cert.ReferenceIdeal.main_arg2)) (V (Proc.devRef .tc Cert.ReferenceIdeal.main_arg4)) (V (Proc.devRef .tc Cert.ReferenceIdeal.main_arg3))
      (V (Proc.devRef .tc Cert.ReferenceIdeal.main_arg6)) (V (Proc.devRef .tc Cert.ReferenceIdeal.main_arg7)) w (shapeCast S1x1 b shapeCasts_S1_S1x1) = refHead V w b :=
  kHead_eq V _ (hid_eq V) w b

/-- The kernel's projection at the reference's arguments. -/
abbrev prj (V : RVal) : FVec Ideal S512x100 .f32 :=
  projV (F := Ideal) (V (Proc.devRef .tc Cert.ReferenceIdeal.main_arg2)) (V (Proc.devRef .tc Cert.ReferenceIdeal.main_arg4))
      (V (Proc.devRef .tc Cert.ReferenceIdeal.main_arg6)) (V (Proc.devRef .tc Cert.ReferenceIdeal.main_arg7)) (V (Proc.devRef .tc Cert.ReferenceIdeal.main_arg8))
      (shapeCast S1x100 (V (Proc.devRef .tc Cert.ReferenceIdeal.main_arg9) : FVec Ideal S100 .f32) shapeCasts_S100_S1x100) (V (Proc.devRef .tc Cert.ReferenceIdeal.main_arg10))
      (shapeCast S1x100 (V (Proc.devRef .tc Cert.ReferenceIdeal.main_arg11) : FVec Ideal S100 .f32) shapeCasts_S100_S1x100)

/-- The kernel's normalised projection is the reference's. -/
theorem prj_eq (V : RVal) : k0_pay6 (F := Ideal) (prj V) k0_pay5 = res_main_v26 V := proj_eq V _ (hid_eq V)

/-- The result `Z`. -/
theorem z_res (V : RVal) : k0_pay8 (F := Ideal) (prj V) k0_pay5
    = maximumf (Host.dotGeneral (φ₁ := .f32) (φ₂ := .f32) Cert.ReferenceIdeal.dot_S512x100_S100x512_S512x512_1_0_0_1_n_n none (res_main_v26 V : FVec Ideal S512x100 .f32) (transpose Cert.ReferenceIdeal.S100x512 [1, 0] (res_main_v26 V : FVec Ideal S512x100 .f32) Cert.ReferenceIdeal.Gen.transposes_S512x100_S100x512_1_0)) (broadcastInDim Cert.ReferenceIdeal.S512x512 ![] Cert.ReferenceIdeal.Gen.bcast_S_S512x512 (constant Cert.ReferenceIdeal.S_ .f32 0x00000000#32)) := by
  unfold k0_pay8
  rw [gram_eq V _ (prj_eq V)]
  exact shapeCast_self _ _

/-- One row of the masks, read out of them by its rectangle. -/
theorem row_eq (x : FVec Ideal S64x512 .f32) (e : Fin 64) :
    (fun j : Fin 512 => (x ((Rect.unit (s := S64x512) ![e.val, 0] S1x512.size (row_inb e)).emb (ValueIdx.ix2 (n0 := 1) (n1 := 512) 0 j)) : EReal)) = row x e := by
  funext j
  unfold row
  refine congrArg x (funext fun a => Fin.ext ?_)
  fin_cases a
  · simp [Rect.emb, Rect.unit, ValueIdx.ix2]
  · simp [Rect.emb, Rect.unit, ValueIdx.ix2]

/-- The kernel's event slabs, entry by entry. -/
theorem ev_at (V : RVal) (e : Fin 64) (a b : Fin 512) :
    (evV (F := Ideal) (V (Proc.devRef .tc Cert.ReferenceIdeal.main_arg2)) (V (Proc.devRef .tc Cert.ReferenceIdeal.main_arg4)) (V (Proc.devRef .tc Cert.ReferenceIdeal.main_arg3))
      (V (Proc.devRef .tc Cert.ReferenceIdeal.main_arg6)) (V (Proc.devRef .tc Cert.ReferenceIdeal.main_arg7)) (V (Proc.devRef .tc Cert.ReferenceIdeal.main_arg8))
      (shapeCast S1x100 (V (Proc.devRef .tc Cert.ReferenceIdeal.main_arg9) : FVec Ideal S100 .f32) shapeCasts_S100_S1x100) (V (Proc.devRef .tc Cert.ReferenceIdeal.main_arg10))
      (shapeCast S1x100 (V (Proc.devRef .tc Cert.ReferenceIdeal.main_arg11) : FVec Ideal S100 .f32) shapeCasts_S100_S1x100) (ValueIdx.ix3 e a b) : EReal) = uv V e a b + uv V e b a := by
  rw [both_eq, ← row_eq]
  refine (slab_eq _ _ a b).trans ?_
  unfold facV
  rw [fac_eq V _ _ (prj_eq V)]

/-- A place in the stack of slabs is its three coordinates. -/
theorem idx3_eq (y : S64x512x512.Idx) : ∃ (e : Fin 64) (a b : Fin 512), y = ValueIdx.ix3 e a b :=
  ⟨y 0, y 1, y 2, by funext a; fin_cases a <;> rfl⟩

/-- The result `Z_event`. -/
theorem ev_res (V : RVal) :
    evV (F := Ideal) (V (Proc.devRef .tc Cert.ReferenceIdeal.main_arg2)) (V (Proc.devRef .tc Cert.ReferenceIdeal.main_arg4)) (V (Proc.devRef .tc Cert.ReferenceIdeal.main_arg3))
      (V (Proc.devRef .tc Cert.ReferenceIdeal.main_arg6)) (V (Proc.devRef .tc Cert.ReferenceIdeal.main_arg7)) (V (Proc.devRef .tc Cert.ReferenceIdeal.main_arg8))
      (shapeCast S1x100 (V (Proc.devRef .tc Cert.ReferenceIdeal.main_arg9) : FVec Ideal S100 .f32) shapeCasts_S100_S1x100) (V (Proc.devRef .tc Cert.ReferenceIdeal.main_arg10))
      (shapeCast S1x100 (V (Proc.devRef .tc Cert.ReferenceIdeal.main_arg11) : FVec Ideal S100 .f32) shapeCasts_S100_S1x100)
    = addf (φ := .f32) (res_main_v103 V) (transpose Cert.ReferenceIdeal.S64x512x512 [0, 2, 1] (res_main_v103 V : FVec Ideal S64x512x512 .f32) Cert.ReferenceIdeal.Gen.transposes_S64x512x512_S64x512x512_0_2_1) := by
  funext y
  obtain ⟨e, a, b, rfl⟩ := idx3_eq y
  exact (ev_at V e a b).trans (sum_eq V e a b).symm

/-- The kernel's threshold at the reference's arguments; the two sizes of the position and the bound on the weights are the precondition's. -/
theorem thr_res (V : RVal) (s : Elt Ideal .f32) (p : ℝ) (hsp : (s : EReal) = sp V) (hs : sp V * ((99 : ℝ) : EReal) = p) (hp0 : 0 ≤ p) (hp1 : p < 99)
    (hC : ∀ i, wts (V (Proc.devRef .tc Cert.ReferenceIdeal.main_arg19)) i ≤ big) (j : Fin 512) :
    (k0_pay23 (F := Ideal) (k0_pay2 (V (Proc.devRef .tc Cert.ReferenceIdeal.main_arg2)) (V (Proc.devRef .tc Cert.ReferenceIdeal.main_arg4)) (V (Proc.devRef .tc Cert.ReferenceIdeal.main_arg6)) (V (Proc.devRef .tc Cert.ReferenceIdeal.main_arg7)))
      (V (Proc.devRef .tc Cert.ReferenceIdeal.main_arg19)) (k0_pay20 s)
      (k0_pay21 (V (Proc.devRef .tc Cert.ReferenceIdeal.main_arg19)) (shapeCast S1x100 (V (Proc.devRef .tc Cert.ReferenceIdeal.main_arg19)) shapeCasts_S100x1_S1x100) s)
      (k0_pay22 (V (Proc.devRef .tc Cert.ReferenceIdeal.main_arg19)) (shapeCast S1x100 (V (Proc.devRef .tc Cert.ReferenceIdeal.main_arg19)) shapeCasts_S100x1_S1x100) s)
      (V (Proc.devRef .tc Cert.ReferenceIdeal.main_arg18)) (ValueIdx.ix2 j 0) : EReal) = (refBeta V (ValueIdx.ix1 j) : EReal) :=
  (beta_eq _ V (hid_eq V) _ _ _ (thr_eq V s p hsp hs hp0 hp1 hC nil) j).trans (refBeta_eq V j).symm

/-- A column laid flat. -/
theorem flat_eq (x : FVec Ideal S512x1 .f32) (j : Fin 512) : (shapeCast S512 x shapeCasts_S512x1_S512 (ValueIdx.ix1 j) : EReal) = (x (ValueIdx.ix2 j 0) : EReal) := by
  pointwise
  rfl

/-- A place in a line is its coordinate. -/
theorem idx1_eq (y : S512.Idx) : ∃ j : Fin 512, y = ValueIdx.ix1 j := ⟨y 0, by funext a; fin_cases a; rfl⟩

/-- The result `beta`. -/
theorem beta_res (V : RVal) (x0 : Vec Ideal S1x1 .f32) (p : ℝ) (hsp : (wordV x0 : EReal) = sp V) (hs : sp V * ((99 : ℝ) : EReal) = p) (hp0 : 0 ≤ p) (hp1 : p < 99)
    (hC : ∀ i, wts (V (Proc.devRef .tc Cert.ReferenceIdeal.main_arg19)) i ≤ big) :
    shapeCast S512 (betaV (F := Ideal) x0 (V (Proc.devRef .tc Cert.ReferenceIdeal.main_arg2)) (V (Proc.devRef .tc Cert.ReferenceIdeal.main_arg4)) (V (Proc.devRef .tc Cert.ReferenceIdeal.main_arg6)) (V (Proc.devRef .tc Cert.ReferenceIdeal.main_arg7))
      (V (Proc.devRef .tc Cert.ReferenceIdeal.main_arg18)) (V (Proc.devRef .tc Cert.ReferenceIdeal.main_arg19)) (shapeCast S1x100 (V (Proc.devRef .tc Cert.ReferenceIdeal.main_arg19)) shapeCasts_S100x1_S1x100)) shapeCasts_S512x1_S512
      = refBeta V := by
  funext y
  obtain ⟨j, rfl⟩ := idx1_eq y
  exact (flat_eq _ j).trans (thr_res V _ p hsp hs hp0 hp1 hC j)

/-- The reference's rate, of its parts. -/
def refLam (V : RVal) : FVec Ideal Cert.ReferenceIdeal.S64x1 .f32 :=
  refSigm (addf (refSigm (refPre (refHead V (V (Proc.devRef .tc Cert.ReferenceIdeal.main_arg12)) (V (Proc.devRef .tc Cert.ReferenceIdeal.main_arg13)))
      (refHead V (V (Proc.devRef .tc Cert.ReferenceIdeal.main_arg14)) (V (Proc.devRef .tc Cert.ReferenceIdeal.main_arg15)))
      (refHead V (V (Proc.devRef .tc Cert.ReferenceIdeal.main_arg16)) (V (Proc.devRef .tc Cert.ReferenceIdeal.main_arg17)))
      (V (Proc.devRef .tc Cert.ReferenceIdeal.main_arg3)) (res_main_v66 V) (res_main_v26 V) (refBeta V)))
    (refMlp (V (Proc.devRef .tc Cert.ReferenceIdeal.main_arg5)) (V (Proc.devRef .tc Cert.ReferenceIdeal.main_arg20)) (V (Proc.devRef .tc Cert.ReferenceIdeal.main_arg21))
      (V (Proc.devRef .tc Cert.ReferenceIdeal.main_arg22)) (V (Proc.devRef .tc Cert.ReferenceIdeal.main_arg23))))

/-- The result `lambda`. -/
theorem lam_res (V : RVal) (x0 : Vec Ideal S1x1 .f32) (p : ℝ) (hsp : (wordV x0 : EReal) = sp V) (hs : sp V * ((99 : ℝ) : EReal) = p) (hp0 : 0 ≤ p) (hp1 : p < 99)
    (hC : ∀ i, wts (V (Proc.devRef .tc Cert.ReferenceIdeal.main_arg19)) i ≤ big) :
    lamV (F := Ideal) x0 (V (Proc.devRef .tc Cert.ReferenceIdeal.main_arg2)) (V (Proc.devRef .tc Cert.ReferenceIdeal.main_arg4)) (V (Proc.devRef .tc Cert.ReferenceIdeal.main_arg3)) (V (Proc.devRef .tc Cert.ReferenceIdeal.main_arg5))
      (V (Proc.devRef .tc Cert.ReferenceIdeal.main_arg6)) (V (Proc.devRef .tc Cert.ReferenceIdeal.main_arg7)) (V (Proc.devRef .tc Cert.ReferenceIdeal.main_arg8))
      (shapeCast S1x100 (V (Proc.devRef .tc Cert.ReferenceIdeal.main_arg9) : FVec Ideal S100 .f32) shapeCasts_S100_S1x100) (V (Proc.devRef .tc Cert.ReferenceIdeal.main_arg10))
      (shapeCast S1x100 (V (Proc.devRef .tc Cert.ReferenceIdeal.main_arg11) : FVec Ideal S100 .f32) shapeCasts_S100_S1x100)
      (V (Proc.devRef .tc Cert.ReferenceIdeal.main_arg12)) (shapeCast S1x1 (V (Proc.devRef .tc Cert.ReferenceIdeal.main_arg13) : FVec Ideal S1 .f32) shapeCasts_S1_S1x1)
      (V (Proc.devRef .tc Cert.ReferenceIdeal.main_arg14)) (shapeCast S1x1 (V (Proc.devRef .tc Cert.ReferenceIdeal.main_arg15) : FVec Ideal S1 .f32) shapeCasts_S1_S1x1)
      (V (Proc.devRef .tc Cert.ReferenceIdeal.main_arg16)) (shapeCast S1x1 (V (Proc.devRef .tc Cert.ReferenceIdeal.main_arg17) : FVec Ideal S1 .f32) shapeCasts_S1_S1x1)
      (V (Proc.devRef .tc Cert.ReferenceIdeal.main_arg18)) (V (Proc.devRef .tc Cert.ReferenceIdeal.main_arg19)) (shapeCast S1x100 (V (Proc.devRef .tc Cert.ReferenceIdeal.main_arg19)) shapeCasts_S100x1_S1x100)
      (V (Proc.devRef .tc Cert.ReferenceIdeal.main_arg20)) (shapeCast S1x128 (V (Proc.devRef .tc Cert.ReferenceIdeal.main_arg21) : FVec Ideal S128 .f32) shapeCasts_S128_S1x128)
      (V (Proc.devRef .tc Cert.ReferenceIdeal.main_arg22)) (shapeCast S1x1 (V (Proc.devRef .tc Cert.ReferenceIdeal.main_arg23) : FVec Ideal S1 .f32) shapeCasts_S1_S1x1)
      = refLam V := by
  unfold lamV refLam
  rw [rate_eq]
  refine congrArg refSigm (congrArg₂ addf (congrArg refSigm ?_) rfl)
  refine (pre_eq _ _ _ _ _ _ _ _ _ _ _ _ (refBeta V) (thr_res V _ p hsp hs hp0 hp1 hC)).trans ?_
  rw [ind_eq, kHead_eq V _ (hid_eq V), eta_res, gam_res]
  exact congrArg (fun P => refPre _ _ _ _ _ P _) (prj_eq V)

end Cert.Alg

end
-- ==== Proof.EqP.lean ====
/-
  What the precondition says of the arguments.
-/
module

public import proofs.«01_k».proof.Pre_in_range
public import proofs.«01_k».proof.Proof.EqC
public import Idealize.ShloMosaic.Lib.ReduceAll
public import Idealize.ShloMosaic.Lib.WordCmp

@[expose] public section

set_option maxRecDepth 16384

noncomputable section

namespace Cert.Alg

open Idealize.ShloMosaic Idealize.ShloMosaic.TcCoe

/-- The shape relations the precondition states. -/
instance preFacts : Cert.Pre_in_range.Facts where
  bcast_S_S100x1 := Cert.ReferenceIdeal.Gen.bcast_S_S100x1
  reducesTo_S100x1_S_d0_1 := by decide
  h_S_ := Cert.ReferenceIdeal.Gen.h_S_

/-- A word that is one says what it decides. -/
theorem of_bit {p : Prop} [Decidable p] (h : BitVec.ofBool (decide p) = 1#1) : p := by
  by_contra hp
  simp [hp] at h

/-- The scalars' ranges, and the bound on the weights. -/
theorem pre_says (a0 a1 : IVec Cert.Pre_in_range.S_ 32) (a2 : FVec Ideal Cert.Pre_in_range.S512x512 .f32) (a3 : FVec Ideal Cert.Pre_in_range.S64x512 .f32)
    (a4 : FVec Ideal Cert.Pre_in_range.S512x50 .f32) (a5 : FVec Ideal Cert.Pre_in_range.S64x512 .f32) (a6 : FVec Ideal Cert.Pre_in_range.S50x100 .f32) (a7 a8 : FVec Ideal Cert.Pre_in_range.S100x100 .f32)
    (a9 : FVec Ideal Cert.Pre_in_range.S100 .f32) (a10 : FVec Ideal Cert.Pre_in_range.S100x100 .f32) (a11 : FVec Ideal Cert.Pre_in_range.S100 .f32) (a12 : FVec Ideal Cert.Pre_in_range.S100x1 .f32) (a13 : FVec Ideal Cert.Pre_in_range.S1 .f32)
    (a14 : FVec Ideal Cert.Pre_in_range.S100x1 .f32) (a15 : FVec Ideal Cert.Pre_in_range.S1 .f32) (a16 : FVec Ideal Cert.Pre_in_range.S100x1 .f32) (a17 : FVec Ideal Cert.Pre_in_range.S1 .f32) (a18 a19 : FVec Ideal Cert.Pre_in_range.S100x1 .f32)
    (a20 : FVec Ideal Cert.Pre_in_range.S512x128 .f32) (a21 : FVec Ideal Cert.Pre_in_range.S128 .f32) (a22 : FVec Ideal Cert.Pre_in_range.S128x1 .f32) (a23 : FVec Ideal Cert.Pre_in_range.S1 .f32)
    (h : Cert.Pre_in_range.fn (F := Ideal) a0 a1 a2 a3 a4 a5 a6 a7 a8 a9 a10 a11 a12 a13 a14 a15 a16 a17 a18 a19 a20 a21 a22 a23 = fun _ => 1#1) :
    (1 ≤ (a1 nil).toInt ∧ 0 ≤ (a0 nil).toInt ∧ (a0 nil).toInt ≤ (a1 nil).toInt) ∧ ∀ k, wts a19 k ≤ big := by
  have h' := congrFun h nil
  unfold Cert.Pre_in_range.fn at h'
  obtain ⟨h1, hw⟩ := IntOp.andi_eq_one.1 h'
  obtain ⟨h2, hle⟩ := IntOp.andi_eq_one.1 h1
  obtain ⟨h3, h0⟩ := IntOp.andi_eq_one.1 h2
  haveI : Subsingleton Cert.Pre_in_range.S_.Idx := ⟨fun a b => funext fun z => Fin.elim0 z⟩
  exact ⟨⟨of_bit h3, of_bit h0, of_bit hle⟩, fun k => of_bit (Host.reduce_andi_all _ _ _ _ _ hw (ValueIdx.ix2 k 0))⟩

/-- Where the kernel's position lies. -/
theorem pos_range (e t : ℤ) (h1 : 1 ≤ t) (h0 : 0 ≤ e) (he : e ≤ t) :
    ∃ p : ℝ, Ideal.div ((e : ℝ) : EReal) ((t : ℝ) : EReal) * Ideal.ofBits .f32 0x3E99999A#32 * ((99 : ℝ) : EReal) = p ∧ 0 ≤ p ∧ p < 99 := by
  have ht : (0 : ℝ) < t := by exact_mod_cast (by omega : 0 < t)
  have hE : (0 : ℝ) ≤ e := by exact_mod_cast h0
  have hr0 : (0 : ℝ) ≤ e * (1 / t) := by positivity
  have hr1 : (e : ℝ) * (1 / t) ≤ 1 := by
    rw [mul_one_div, div_le_one ht]; exact_mod_cast he
  refine ⟨e * (1 / t) * (10066330 / 33554432) * 99, ?_, by positivity, by nlinarith⟩
  rw [Ideal.div_coe ht.ne', ofBits_30, ← EReal.coe_mul, ← EReal.coe_mul, ← EReal.coe_mul]

end Cert.Alg

end
-- ==== Proof.EqG.lean ====
/-
  What the kernel's region is handed, of the arguments (the host's lines before it), and with it the seven results: on equal
  arguments within the precondition they are the reference's.
-/
module

public import proofs.«01_k».proof.Proof.RunI
public import proofs.«01_k».proof.Proof.EqF
public import proofs.«01_k».proof.Proof.EqP
public import proofs.«01_k».proof.Defs

@[expose] public section

set_option maxRecDepth 16384

noncomputable section

namespace Cert.Alg

open Idealize.ShloMosaic Idealize.ShloMosaic.TcCoe Idealize.SL.Sem
open Cert.KernelIdeal Cert.KernelIdeal.Gen Cert.KernelIdeal.Hand

section Host
variable (m : (ℓ : Loc nD τ sig) → Buf (Elt Ideal) ℓ) (c : Dev nD)

/-- The arguments the host reshapes for the region. -/
theorem V_reshaped :
    (V m c main_v5 : Vec Ideal S1x100 .f32) = shapeCast S1x100 (m ((c.tc : Thread nD τ).loc main_arg19) : Vec Ideal S100x1 .f32) shapeCasts_S100x1_S1x100
    ∧ (V m c main_v6 : Vec Ideal S1x100 .f32) = shapeCast S1x100 (m ((c.tc : Thread nD τ).loc main_arg9) : Vec Ideal S100 .f32) shapeCasts_S100_S1x100
    ∧ (V m c main_v7 : Vec Ideal S1x100 .f32) = shapeCast S1x100 (m ((c.tc : Thread nD τ).loc main_arg11) : Vec Ideal S100 .f32) shapeCasts_S100_S1x100
    ∧ (V m c main_v8 : Vec Ideal S1x1 .f32) = shapeCast S1x1 (m ((c.tc : Thread nD τ).loc main_arg13) : Vec Ideal S1 .f32) shapeCasts_S1_S1x1
    ∧ (V m c main_v9 : Vec Ideal S1x1 .f32) = shapeCast S1x1 (m ((c.tc : Thread nD τ).loc main_arg15) : Vec Ideal S1 .f32) shapeCasts_S1_S1x1
    ∧ (V m c main_v10 : Vec Ideal S1x1 .f32) = shapeCast S1x1 (m ((c.tc : Thread nD τ).loc main_arg17) : Vec Ideal S1 .f32) shapeCasts_S1_S1x1
    ∧ (V m c main_v11 : Vec Ideal S1x128 .f32) = shapeCast S1x128 (m ((c.tc : Thread nD τ).loc main_arg21) : Vec Ideal S128 .f32) shapeCasts_S128_S1x128
    ∧ (V m c main_v12 : Vec Ideal S1x1 .f32) = shapeCast S1x1 (m ((c.tc : Thread nD τ).loc main_arg23) : Vec Ideal S1 .f32) shapeCasts_S1_S1x1 := by
  simp only [V, V0, hostOps0, List.flatten_cons, List.flatten_nil, List.append_nil, List.cons_append, List.nil_append]
  refine ⟨?_, ?_, ?_, ?_, ?_, ?_, ?_, ?_⟩ <;> after_results_simp <;> rfl

/-- The word the host computes for the region. -/
theorem V_word : (V m c main_v4 : Vec Ideal S1x1 .f32) = shapeCast S1x1 (mulf (F := Ideal) (φ := .f32) (Host.divf (sitofp .f32 (m ((c.tc : Thread nD τ).loc main_arg0) : IVec S_ 32)) (sitofp .f32 (m ((c.tc : Thread nD τ).loc main_arg1) : IVec S_ 32))) (constant S_ .f32 0x3E99999A#32)) shapeCasts_S_S1x1 := by
  simp only [V, V0, hostOps0, List.flatten_cons, List.flatten_nil, List.append_nil, List.cons_append, List.nil_append]
  after_results_simp
  rfl

end Host

section Agree
variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The two memories hold the same arguments on a device. -/
def Agree : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)
  ∧ m' ((c.tc : Thread Cert.ReferenceIdeal.nD Cert.ReferenceIdeal.τ).loc Cert.ReferenceIdeal.main_arg6) = m ((c.tc : Thread nD τ).loc main_arg6)
  ∧ m' ((c.tc : Thread Cert.ReferenceIdeal.nD Cert.ReferenceIdeal.τ).loc Cert.ReferenceIdeal.main_arg7) = m ((c.tc : Thread nD τ).loc main_arg7)
  ∧ m' ((c.tc : Thread Cert.ReferenceIdeal.nD Cert.ReferenceIdeal.τ).loc Cert.ReferenceIdeal.main_arg8) = m ((c.tc : Thread nD τ).loc main_arg8)
  ∧ m' ((c.tc : Thread Cert.ReferenceIdeal.nD Cert.ReferenceIdeal.τ).loc Cert.ReferenceIdeal.main_arg9) = m ((c.tc : Thread nD τ).loc main_arg9)
  ∧ m' ((c.tc : Thread Cert.ReferenceIdeal.nD Cert.ReferenceIdeal.τ).loc Cert.ReferenceIdeal.main_arg10) = m ((c.tc : Thread nD τ).loc main_arg10)
  ∧ m' ((c.tc : Thread Cert.ReferenceIdeal.nD Cert.ReferenceIdeal.τ).loc Cert.ReferenceIdeal.main_arg11) = m ((c.tc : Thread nD τ).loc main_arg11)
  ∧ m' ((c.tc : Thread Cert.ReferenceIdeal.nD Cert.ReferenceIdeal.τ).loc Cert.ReferenceIdeal.main_arg12) = m ((c.tc : Thread nD τ).loc main_arg12)
  ∧ m' ((c.tc : Thread Cert.ReferenceIdeal.nD Cert.ReferenceIdeal.τ).loc Cert.ReferenceIdeal.main_arg13) = m ((c.tc : Thread nD τ).loc main_arg13)
  ∧ m' ((c.tc : Thread Cert.ReferenceIdeal.nD Cert.ReferenceIdeal.τ).loc Cert.ReferenceIdeal.main_arg14) = m ((c.tc : Thread nD τ).loc main_arg14)
  ∧ m' ((c.tc : Thread Cert.ReferenceIdeal.nD Cert.ReferenceIdeal.τ).loc Cert.ReferenceIdeal.main_arg15) = m ((c.tc : Thread nD τ).loc main_arg15)
  ∧ m' ((c.tc : Thread Cert.ReferenceIdeal.nD Cert.ReferenceIdeal.τ).loc Cert.ReferenceIdeal.main_arg16) = m ((c.tc : Thread nD τ).loc main_arg16)
  ∧ m' ((c.tc : Thread Cert.ReferenceIdeal.nD Cert.ReferenceIdeal.τ).loc Cert.ReferenceIdeal.main_arg17) = m ((c.tc : Thread nD τ).loc main_arg17)
  ∧ m' ((c.tc : Thread Cert.ReferenceIdeal.nD Cert.ReferenceIdeal.τ).loc Cert.ReferenceIdeal.main_arg18) = m ((c.tc : Thread nD τ).loc main_arg18)
  ∧ m' ((c.tc : Thread Cert.ReferenceIdeal.nD Cert.ReferenceIdeal.τ).loc Cert.ReferenceIdeal.main_arg19) = m ((c.tc : Thread nD τ).loc main_arg19)
  ∧ m' ((c.tc : Thread Cert.ReferenceIdeal.nD Cert.ReferenceIdeal.τ).loc Cert.ReferenceIdeal.main_arg20) = m ((c.tc : Thread nD τ).loc main_arg20)
  ∧ m' ((c.tc : Thread Cert.ReferenceIdeal.nD Cert.ReferenceIdeal.τ).loc Cert.ReferenceIdeal.main_arg21) = m ((c.tc : Thread nD τ).loc main_arg21)
  ∧ m' ((c.tc : Thread Cert.ReferenceIdeal.nD Cert.ReferenceIdeal.τ).loc Cert.ReferenceIdeal.main_arg22) = m ((c.tc : Thread nD τ).loc main_arg22)
  ∧ m' ((c.tc : Thread Cert.ReferenceIdeal.nD Cert.ReferenceIdeal.τ).loc Cert.ReferenceIdeal.main_arg23) = m ((c.tc : Thread nD τ).loc main_arg23)

/-- The reference's arguments, as a valuation. -/
abbrev rv : RVal := StableHlo.launchContents m' c

variable {m m' c}

/-- What the region is handed, at the reference's arguments. -/
theorem handed (h : Agree m m' c) :
    V m c main_arg2 = rv m' c (Proc.devRef .tc Cert.ReferenceIdeal.main_arg2)
    ∧ V m c main_arg3 = rv m' c (Proc.devRef .tc Cert.ReferenceIdeal.main_arg3)
    ∧ V m c main_arg4 = rv m' c (Proc.devRef .tc Cert.ReferenceIdeal.main_arg4)
    ∧ V m c main_arg5 = rv m' c (Proc.devRef .tc Cert.ReferenceIdeal.main_arg5)
    ∧ V m c main_arg6 = rv m' c (Proc.devRef .tc Cert.ReferenceIdeal.main_arg6)
    ∧ V m c main_arg7 = rv m' c (Proc.devRef .tc Cert.ReferenceIdeal.main_arg7)
    ∧ V m c main_arg8 = rv m' c (Proc.devRef .tc Cert.ReferenceIdeal.main_arg8)
    ∧ V m c main_arg10 = rv m' c (Proc.devRef .tc Cert.ReferenceIdeal.main_arg10)
    ∧ V m c main_arg12 = rv m' c (Proc.devRef .tc Cert.ReferenceIdeal.main_arg12)
    ∧ V m c main_arg14 = rv m' c (Proc.devRef .tc Cert.ReferenceIdeal.main_arg14)
    ∧ V m c main_arg16 = rv m' c (Proc.devRef .tc Cert.ReferenceIdeal.main_arg16)
    ∧ V m c main_arg18 = rv m' c (Proc.devRef .tc Cert.ReferenceIdeal.main_arg18)
    ∧ V m c main_arg19 = rv m' c (Proc.devRef .tc Cert.ReferenceIdeal.main_arg19)
    ∧ V m c main_arg20 = rv m' c (Proc.devRef .tc Cert.ReferenceIdeal.main_arg20)
    ∧ V m c main_arg22 = rv m' c (Proc.devRef .tc Cert.ReferenceIdeal.main_arg22)
    ∧ (V m c main_v5 : Vec Ideal S1x100 .f32) = shapeCast S1x100 (rv m' c (Proc.devRef .tc Cert.ReferenceIdeal.main_arg19) : Vec Ideal S100x1 .f32) shapeCasts_S100x1_S1x100
    ∧ (V m c main_v6 : Vec Ideal S1x100 .f32) = shapeCast S1x100 (rv m' c (Proc.devRef .tc Cert.ReferenceIdeal.main_arg9) : Vec Ideal S100 .f32) shapeCasts_S100_S1x100
    ∧ (V m c main_v7 : Vec Ideal S1x100 .f32) = shapeCast S1x100 (rv m' c (Proc.devRef .tc Cert.ReferenceIdeal.main_arg11) : Vec Ideal S100 .f32) shapeCasts_S100_S1x100
    ∧ (V m c main_v8 : Vec Ideal S1x1 .f32) = shapeCast S1x1 (rv m' c (Proc.devRef .tc Cert.ReferenceIdeal.main_arg13) : Vec Ideal S1 .f32) shapeCasts_S1_S1x1
    ∧ (V m c main_v9 : Vec Ideal S1x1 .f32) = shapeCast S1x1 (rv m' c (Proc.devRef .tc Cert.ReferenceIdeal.main_arg15) : Vec Ideal S1 .f32) shapeCasts_S1_S1x1
    ∧ (V m c main_v10 : Vec Ideal S1x1 .f32) = shapeCast S1x1 (rv m' c (Proc.devRef .tc Cert.ReferenceIdeal.main_arg17) : Vec Ideal S1 .f32) shapeCasts_S1_S1x1
    ∧ (V m c main_v11 : Vec Ideal S1x128 .f32) = shapeCast S1x128 (rv m' c (Proc.devRef .tc Cert.ReferenceIdeal.main_arg21) : Vec Ideal S128 .f32) shapeCasts_S128_S1x128
    ∧ (V m c main_v12 : Vec Ideal S1x1 .f32) = shapeCast S1x1 (rv m' c (Proc.devRef .tc Cert.ReferenceIdeal.main_arg23) : Vec Ideal S1 .f32) shapeCasts_S1_S1x1 := by
  obtain ⟨h0, h1, h2, h3, h4, h5, h6, h7, h8, h9, h10, h11, h12, h13, h14, h15, h16, h17, h18, h19, h20, h21, h22, h23⟩ := h
  obtain ⟨r5, r6, r7, r8, r9, r10, r11, r12⟩ := V_reshaped m c
  exact ⟨(V_main_arg2 m c).trans h2.symm, (V_main_arg3 m c).trans h3.symm, (V_main_arg4 m c).trans h4.symm, (V_main_arg5 m c).trans h5.symm, (V_main_arg6 m c).trans h6.symm, (V_main_arg7 m c).trans h7.symm, (V_main_arg8 m c).trans h8.symm, (V_main_arg10 m c).trans h10.symm, (V_main_arg12 m c).trans h12.symm, (V_main_arg14 m c).trans h14.symm, (V_main_arg16 m c).trans h16.symm, (V_main_arg18 m c).trans h18.symm, (V_main_arg19 m c).trans h19.symm, (V_main_arg20 m c).trans h20.symm, (V_main_arg22 m c).trans h22.symm,
    r5.trans (congrArg (fun x => shapeCast _ x _) h19.symm), r6.trans (congrArg (fun x => shapeCast _ x _) h9.symm), r7.trans (congrArg (fun x => shapeCast _ x _) h11.symm), r8.trans (congrArg (fun x => shapeCast _ x _) h13.symm), r9.trans (congrArg (fun x => shapeCast _ x _) h15.symm), r10.trans (congrArg (fun x => shapeCast _ x _) h17.symm), r11.trans (congrArg (fun x => shapeCast _ x _) h21.symm), r12.trans (congrArg (fun x => shapeCast _ x _) h23.symm)⟩

/-- The word is the reference's sparsity. -/
theorem word_eq (h : Agree m m' c) : (wordV (V m c main_v4 : Vec Ideal S1x1 .f32) : EReal) = sp (rv m' c) := by
  rw [V_word m c]
  unfold sp
  rw [show rv m' c (Proc.devRef .tc Cert.ReferenceIdeal.main_arg0) = _ from h.1, show rv m' c (Proc.devRef .tc Cert.ReferenceIdeal.main_arg1) = _ from h.2.1]
  rfl

/-- The reference's position and weights are within the bounds, by the precondition. -/
theorem pre_res (h : Agree m m' c) (hp : Pre_KernelIdeal_in_range m) :
    (∃ p : ℝ, sp (rv m' c) * ((99 : ℝ) : EReal) = p ∧ 0 ≤ p ∧ p < 99) ∧ ∀ k, wts (rv m' c (Proc.devRef .tc Cert.ReferenceIdeal.main_arg19)) k ≤ big := by
  obtain ⟨⟨h1, h0, hle⟩, hw⟩ := pre_says _ _ _ _ _ _ _ _ _ _ _ _ _ _ _ _ _ _ _ _ _ _ _ _ (hp c)
  refine ⟨?_, ?_⟩
  · unfold sp
    rw [show rv m' c (Proc.devRef .tc Cert.ReferenceIdeal.main_arg0) = _ from h.1, show rv m' c (Proc.devRef .tc Cert.ReferenceIdeal.main_arg1) = _ from h.2.1]
    exact pos_range _ _ h1 h0 hle
  · rw [show rv m' c (Proc.devRef .tc Cert.ReferenceIdeal.main_arg19) = _ from h.2.2.2.2.2.2.2.2.2.2.2.2.2.2.2.2.2.2.2.1]
    exact hw

/-- The seven results of the kernel are the reference's. -/
theorem results_eq (h : Agree m m' c) (hp : Pre_KernelIdeal_in_range m) :
    lamC m c = refLam (rv m' c)
    ∧ zC m c = k0_pay8 (F := Ideal) (prj (rv m' c)) k0_pay5
    ∧ shapeCast S512 (betaC m c) shapeCasts_S512x1_S512 = refBeta (rv m' c)
    ∧ gamC m c = refHead (rv m' c) (rv m' c (Proc.devRef .tc Cert.ReferenceIdeal.main_arg16)) (rv m' c (Proc.devRef .tc Cert.ReferenceIdeal.main_arg17))
    ∧ etaC m c = refHead (rv m' c) (rv m' c (Proc.devRef .tc Cert.ReferenceIdeal.main_arg14)) (rv m' c (Proc.devRef .tc Cert.ReferenceIdeal.main_arg15))
    ∧ evC m c = addf (F := Ideal) (φ := .f32) (Cert.ReferenceIdeal.Value.res_main_v103 (rv m' c)) (transpose Cert.ReferenceIdeal.S64x512x512 [0, 2, 1] (Cert.ReferenceIdeal.Value.res_main_v103 (rv m' c) : FVec Ideal S64x512x512 .f32) Cert.ReferenceIdeal.Gen.transposes_S64x512x512_S64x512x512_0_2_1)
    ∧ hC m c = Cert.ReferenceIdeal.Value.res_main_v4 (rv m' c) := by
  obtain ⟨⟨p, hs, hp0, hp1⟩, hw⟩ := pre_res h hp
  have hx := word_eq h
  obtain ⟨a2, a3, a4, a5, a6, a7, a8, a10, a12, a14, a16, a18, a19, a20, a22, r5, r6, r7, r8, r9, r10, r11, r12⟩ := handed h
  refine ⟨?_, ?_, ?_, ?_, ?_, ?_, ?_⟩
  · unfold lamC
    rw [a2, a3, a4, a5, a6, a7, a8, a10, a12, a14, a16, a18, a19, a20, a22, r5, r6, r7, r8, r9, r10, r11, r12]
    exact lam_res _ _ p hx hs hp0 hp1 hw
  · unfold zC zV
    rw [a2, a4, a6, a7, a8, a10, r6, r7]
  · unfold betaC
    rw [a2, a4, a6, a7, a18, a19, r5]
    exact beta_res _ _ p hx hs hp0 hp1 hw
  · unfold gamC
    rw [a2, a3, a4, a6, a7, a16, r10]
    exact gam_res _ _ _
  · unfold etaC
    rw [a2, a3, a4, a6, a7, a14, r9]
    exact eta_res _ _ _
  · unfold evC
    rw [a2, a3, a4, a6, a7, a8, a10, r6, r7]
    exact ev_res _
  · unfold hC
    rw [a2, a4, a6, a7]
    exact h_res _

end Agree

end Cert.Alg

end
-- ==== Proof.lean ====
/-
  The claim: the kernel and its ideal program run, change no argument and leave every semaphore at zero; the reference does; the
  ideal program is the kernel's own text; and where the precondition holds, its seven results are the reference's.
-/
module

public import proofs.«01_k».proof.Defs
public import proofs.«01_k».proof.Proof.RunK
public import proofs.«01_k».proof.Proof.RunI
public import proofs.«01_k».proof.Proof.EqG
public import proofs.«01_k».proof.Proof.Gen.ReferenceIdeal.Run
public import Idealize.ShloMosaic.Adequacy
public import Idealize.ShloMosaic.Init

@[expose] public section

set_option maxRecDepth 16384

noncomputable section

namespace Cert.Proof

open Idealize.ShloMosaic Idealize.ShloMosaic.TcCoe Idealize.SL.Sem

theorem frame_kernel : Cert.quiescent_Kernel (hKernel := Cert.Kernel.Gen.facts) := fun m g _ =>
  (θ_run _ _ _).mono (fun _ h => ⟨fun c => (h.1 c).2, h.2⟩) (Cert.Kernel.Hand.run_all m g)

theorem frame_ideal : Cert.quiescent_KernelIdeal (hKernelIdeal := Cert.KernelIdeal.Gen.facts) := fun m g _ =>
  (θ_run _ _ _).mono (fun _ h => ⟨fun c => (h.1 c).2, h.2⟩) (Cert.KernelIdeal.Hand.run_all m g)

/-- The reference declares no semaphore. -/
theorem frame_reference : Cert.quiescent_ReferenceIdeal (hReferenceIdeal := Cert.ReferenceIdeal.Gen.facts) := fun m g _ =>
  (θ_run _ _ _).mono (fun r h => ⟨fun c => (h c).2.2.2.2.2.2.2, sem_eq_zero_of_no_sems (by decide) r.2⟩)
    (Cert.ReferenceIdeal.Value.run m g)

theorem frame_ideal_pre : Cert.quiescent_KernelIdeal_pre_in_range (hKernelIdeal := Cert.KernelIdeal.Gen.facts) (hPre_in_range := Cert.Alg.preFacts) :=
  fun m g _ => frame_ideal m g trivial

theorem frame_reference_pre : Cert.quiescent_ReferenceIdeal_pre_in_range (hReferenceIdeal := Cert.ReferenceIdeal.Gen.facts) (hPre_in_range := Cert.Alg.preFacts) :=
  fun m g _ => frame_reference m g trivial

theorem equal : Cert.algebraic_KernelIdeal_ReferenceIdeal_pre_in_range (hKernelIdeal := Cert.KernelIdeal.Gen.facts)
    (hReferenceIdeal := Cert.ReferenceIdeal.Gen.facts) (hPre_in_range := Cert.Alg.preFacts) := fun m g m' g' hp hag =>
  have e := fun c => Cert.Alg.results_eq (m := m) (m' := m') (c := c) (hag c) hp
  ⟨fun c => Cert.KernelIdeal.Hand.lamC m c, fun c => Cert.KernelIdeal.Hand.zC m c,
    fun c => shapeCast Cert.KernelIdeal.S512 (Cert.KernelIdeal.Hand.betaC m c) Cert.KernelIdeal.Gen.shapeCasts_S512x1_S512,
    fun c => Cert.KernelIdeal.Hand.gamC m c, fun c => Cert.KernelIdeal.Hand.etaC m c, fun c => Cert.KernelIdeal.Hand.evC m c,
    fun c => Cert.KernelIdeal.Hand.hC m c,
    (θ_run _ _ _).mono (fun _ h c =>
      have ⟨⟨r0, r1, r2, r3, r4, r5, r6⟩, k⟩ := h.1 c
      ⟨r0, r1, r2, r3, r4, r5, r6, k⟩) (Cert.KernelIdeal.Hand.run_all m g),
    (θ_run _ _ _).mono (fun _ h c =>
      have ⟨r0, r1, r2, r3, r4, r5, r6, k⟩ := h c
      have ⟨e0, e1, e2, e3, e4, e5, e6⟩ := e c
      ⟨r0.trans e0.symm, r1.trans ((Cert.Alg.z_res _).symm.trans e1.symm), r2.trans e2.symm, r3.trans e3.symm, r4.trans e4.symm,
        r5.trans e5.symm, r6.trans e6.symm, k⟩) (Cert.ReferenceIdeal.Value.run m' g')⟩

theorem claim : Cert.Claim :=
  ⟨Cert.Kernel.Gen.facts, Cert.KernelIdeal.Gen.facts, Cert.ReferenceIdeal.Gen.facts, Cert.Alg.preFacts, frame_kernel, frame_ideal,
    frame_ideal_pre, frame_reference, frame_reference_pre, trivial, equal⟩

end Cert.Proof

end
